-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S32768x1024 : Shape := ⟨2, ![32768, 1024]⟩
abbrev S2x256x1024 : Shape := ⟨3, ![2, 256, 1024]⟩
abbrev S16x256x1024 : Shape := ⟨3, ![16, 256, 1024]⟩
abbrev S32x256x1024 : Shape := ⟨3, ![32, 256, 1024]⟩
abbrev S2x512x1024 : Shape := ⟨3, ![2, 512, 1024]⟩
abbrev S2 : Shape := ⟨1, ![2]⟩
abbrev S32 : Shape := ⟨1, ![32]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 2
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S32768x1024, .bf16⟩
  | .local _ .vmem, ⟨0, _⟩ => ⟨S2x256x1024, .f32⟩
  | .local _ .vmem, ⟨1, _⟩ => ⟨S16x256x1024, .bf16⟩
  | .local _ .vmem, ⟨2, _⟩ => ⟨S32x256x1024, .bf16⟩
  | .local _ .vmem, ⟨3, _⟩ => ⟨S32x256x1024, .bf16⟩
  | .local _ .vmem, ⟨4, _⟩ => ⟨S2x512x1024, .f32⟩
  | .local _ .vmem, ⟨5, _⟩ => ⟨S2x512x1024, .bf16⟩
  | _, _ => ⟨S16384x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 198 → Bool
  | ⟨i, _⟩ => dmaSemScopedAt i

abbrev sig : RefSig :=
  (ofTc nBuf bufTy 1 198 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v17 : BitVec 32 := Scalar.muli v2 c8192_i32
  let v18 : BitVec 32 := Scalar.addi v17 c0_i32_12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1024_i32 : BitVec 32 := 1024#32
  let v19 : BitVec 32 := Scalar.muli v6 c1024_i32
  ![v18.toNat, v19.toNat]
def k0_off2 (d0 : Dev nD) : Fin 2 → Nat :=
  let c0_i32_22 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_17 : BitVec 32 := 1024#32
  let v25 : BitVec 32 := Scalar.muli v5 c1024_i32_17
  ![0, v25.toNat]
def k0_dev3 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v50 : BitVec 32 := Scalar.muli v2 c2_i32_42
  let v51 : BitVec 32 := Scalar.addi c0_i32_43 v50
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_44 : BitVec 32 := 1#32
  let v52 : BitVec 32 := Scalar.muli v6 c1_i32_44
  let v53 : BitVec 32 := Scalar.addi v51 v52
  v53.toNat
def k0_off3 (d0 : Dev nD) : Fin 2 → Nat :=
  let c512_i32 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_49 : BitVec 32 := 1024#32
  let v62 : BitVec 32 := Scalar.muli v5 c1024_i32_49
  ![512, v62.toNat]
def k0_off4 (d0 : Dev nD) (c0_i32_65 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v79 : BitVec 32 := Scalar.muli v5 c16384_i32
  let v80 : BitVec 32 := Scalar.addi v79 c0_i32_65
  let c0_i32_68 : BitVec 32 := 0#32
  ![v80.toNat, 0]
def k0_dev4 (d0 : Dev nD) : Nat :=
  let c0_i32_92 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_91 : BitVec 32 := 2#32
  let v105 : BitVec 32 := Scalar.muli v2 c2_i32_91
  let v106 : BitVec 32 := Scalar.addi c0_i32_92 v105
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_93 : BitVec 32 := 1#32
  let v107 : BitVec 32 := Scalar.muli v6 c1_i32_93
  let v108 : BitVec 32 := Scalar.addi v106 v107
  v108.toNat
def k0_off5 (d0 : Dev nD) : Fin 2 → Nat :=
  let c1024_i32_103 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_98 : BitVec 32 := 1024#32
  let v117 : BitVec 32 := Scalar.muli v5 c1024_i32_98
  ![1024, v117.toNat]
def k0_dev5 (d0 : Dev nD) : Nat :=
  let c0_i32_138 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_137 : BitVec 32 := 2#32
  let v151 : BitVec 32 := Scalar.muli v7 c2_i32_137
  let v152 : BitVec 32 := Scalar.addi c0_i32_138 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_139 : BitVec 32 := 1#32
  let v153 : BitVec 32 := Scalar.muli v5 c1_i32_139
  let v154 : BitVec 32 := Scalar.addi v152 v153
  v154.toNat
def k0_off6 (d0 : Dev nD) (c0_i32_146 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c16384_i32_144 : BitVec 32 := 16384#32
  let v163 : BitVec 32 := Scalar.muli v6 c16384_i32_144
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32_145 : BitVec 32 := 8192#32
  let v164 : BitVec 32 := Scalar.muli v2 c8192_i32_145
  let v165 : BitVec 32 := Scalar.addi v163 v164
  let v166 : BitVec 32 := Scalar.addi v165 c0_i32_146
  let c0_i32_149 : BitVec 32 := 0#32
  ![v166.toNat, 0]
def k0_dev6 (d0 : Dev nD) : Nat :=
  let c0_i32_172 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_171 : BitVec 32 := 2#32
  let v191 : BitVec 32 := Scalar.muli v2 c2_i32_171
  let v192 : BitVec 32 := Scalar.addi c0_i32_172 v191
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_173 : BitVec 32 := 1#32
  let v193 : BitVec 32 := Scalar.muli v6 c1_i32_173
  let v194 : BitVec 32 := Scalar.addi v192 v193
  v194.toNat
def k0_off7 (d0 : Dev nD) : Fin 2 → Nat :=
  let c1536_i32 : BitVec 32 := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_178 : BitVec 32 := 1024#32
  let v203 : BitVec 32 := Scalar.muli v5 c1024_i32_178
  ![1536, v203.toNat]
def k0_dev7 (d0 : Dev nD) : Nat :=
  let c0_i32_222 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_221 : BitVec 32 := 2#32
  let v242 : BitVec 32 := Scalar.muli v7 c2_i32_221
  let v243 : BitVec 32 := Scalar.addi c0_i32_222 v242
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_223 : BitVec 32 := 1#32
  let v244 : BitVec 32 := Scalar.muli v5 c1_i32_223
  let v245 : BitVec 32 := Scalar.addi v243 v244
  v245.toNat
def k0_dev8 (d0 : Dev nD) : Nat :=
  let c0_i32_256 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_255 : BitVec 32 := 2#32
  let v282 : BitVec 32 := Scalar.muli v2 c2_i32_255
  let v283 : BitVec 32 := Scalar.addi c0_i32_256 v282
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_257 : BitVec 32 := 1#32
  let v284 : BitVec 32 := Scalar.muli v6 c1_i32_257
  let v285 : BitVec 32 := Scalar.addi v283 v284
  v285.toNat
def k0_off8 (d0 : Dev nD) : Fin 2 → Nat :=
  let c2048_i32 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_262 : BitVec 32 := 1024#32
  let v294 : BitVec 32 := Scalar.muli v5 c1024_i32_262
  ![2048, v294.toNat]
def k0_dev9 (d0 : Dev nD) : Nat :=
  let c0_i32_306 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_305 : BitVec 32 := 2#32
  let v333 : BitVec 32 := Scalar.muli v7 c2_i32_305
  let v334 : BitVec 32 := Scalar.addi c0_i32_306 v333
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_307 : BitVec 32 := 1#32
  let v335 : BitVec 32 := Scalar.muli v5 c1_i32_307
  let v336 : BitVec 32 := Scalar.addi v334 v335
  v336.toNat
def k0_dev10 (d0 : Dev nD) : Nat :=
  let c0_i32_339 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_338 : BitVec 32 := 2#32
  let v373 : BitVec 32 := Scalar.muli v2 c2_i32_338
  let v374 : BitVec 32 := Scalar.addi c0_i32_339 v373
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_340 : BitVec 32 := 1#32
  let v375 : BitVec 32 := Scalar.muli v6 c1_i32_340
  let v376 : BitVec 32 := Scalar.addi v374 v375
  v376.toNat
def k0_off9 (d0 : Dev nD) : Fin 2 → Nat :=
  let c2560_i32 : BitVec 32 := 2560#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_345 : BitVec 32 := 1024#32
  let v385 : BitVec 32 := Scalar.muli v5 c1024_i32_345
  ![2560, v385.toNat]
def k0_dev11 (d0 : Dev nD) : Nat :=
  let c0_i32_389 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_388 : BitVec 32 := 2#32
  let v424 : BitVec 32 := Scalar.muli v7 c2_i32_388
  let v425 : BitVec 32 := Scalar.addi c0_i32_389 v424
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_390 : BitVec 32 := 1#32
  let v426 : BitVec 32 := Scalar.muli v5 c1_i32_390
  let v427 : BitVec 32 := Scalar.addi v425 v426
  v427.toNat
def k0_dev12 (d0 : Dev nD) : Nat :=
  let c0_i32_423 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_422 : BitVec 32 := 2#32
  let v464 : BitVec 32 := Scalar.muli v2 c2_i32_422
  let v465 : BitVec 32 := Scalar.addi c0_i32_423 v464
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_424 : BitVec 32 := 1#32
  let v466 : BitVec 32 := Scalar.muli v6 c1_i32_424
  let v467 : BitVec 32 := Scalar.addi v465 v466
  v467.toNat
def k0_off10 (d0 : Dev nD) : Fin 2 → Nat :=
  let c3072_i32 : BitVec 32 := 3072#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_429 : BitVec 32 := 1024#32
  let v476 : BitVec 32 := Scalar.muli v5 c1024_i32_429
  ![3072, v476.toNat]
def k0_dev13 (d0 : Dev nD) : Nat :=
  let c0_i32_473 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_472 : BitVec 32 := 2#32
  let v515 : BitVec 32 := Scalar.muli v7 c2_i32_472
  let v516 : BitVec 32 := Scalar.addi c0_i32_473 v515
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_474 : BitVec 32 := 1#32
  let v517 : BitVec 32 := Scalar.muli v5 c1_i32_474
  let v518 : BitVec 32 := Scalar.addi v516 v517
  v518.toNat
def k0_dev14 (d0 : Dev nD) : Nat :=
  let c0_i32_506 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_505 : BitVec 32 := 2#32
  let v555 : BitVec 32 := Scalar.muli v2 c2_i32_505
  let v556 : BitVec 32 := Scalar.addi c0_i32_506 v555
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_507 : BitVec 32 := 1#32
  let v557 : BitVec 32 := Scalar.muli v6 c1_i32_507
  let v558 : BitVec 32 := Scalar.addi v556 v557
  v558.toNat
def k0_off11 (d0 : Dev nD) : Fin 2 → Nat :=
  let c3584_i32 : BitVec 32 := 3584#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_512 : BitVec 32 := 1024#32
  let v567 : BitVec 32 := Scalar.muli v5 c1024_i32_512
  ![3584, v567.toNat]
def k0_dev15 (d0 : Dev nD) : Nat :=
  let c0_i32_556 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_555 : BitVec 32 := 2#32
  let v606 : BitVec 32 := Scalar.muli v7 c2_i32_555
  let v607 : BitVec 32 := Scalar.addi c0_i32_556 v606
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_557 : BitVec 32 := 1#32
  let v608 : BitVec 32 := Scalar.muli v5 c1_i32_557
  let v609 : BitVec 32 := Scalar.addi v607 v608
  v609.toNat
def k0_dev16 (d0 : Dev nD) : Nat :=
  let c0_i32_590 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_589 : BitVec 32 := 2#32
  let v646 : BitVec 32 := Scalar.muli v2 c2_i32_589
  let v647 : BitVec 32 := Scalar.addi c0_i32_590 v646
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_591 : BitVec 32 := 1#32
  let v648 : BitVec 32 := Scalar.muli v6 c1_i32_591
  let v649 : BitVec 32 := Scalar.addi v647 v648
  v649.toNat
def k0_off12 (d0 : Dev nD) : Fin 2 → Nat :=
  let c4096_i32 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_596 : BitVec 32 := 1024#32
  let v658 : BitVec 32 := Scalar.muli v5 c1024_i32_596
  ![4096, v658.toNat]
def k0_dev17 (d0 : Dev nD) : Nat :=
  let c0_i32_640 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_639 : BitVec 32 := 2#32
  let v697 : BitVec 32 := Scalar.muli v7 c2_i32_639
  let v698 : BitVec 32 := Scalar.addi c0_i32_640 v697
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_641 : BitVec 32 := 1#32
  let v699 : BitVec 32 := Scalar.muli v5 c1_i32_641
  let v700 : BitVec 32 := Scalar.addi v698 v699
  v700.toNat
def k0_dev18 (d0 : Dev nD) : Nat :=
  let c0_i32_673 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_672 : BitVec 32 := 2#32
  let v737 : BitVec 32 := Scalar.muli v2 c2_i32_672
  let v738 : BitVec 32 := Scalar.addi c0_i32_673 v737
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_674 : BitVec 32 := 1#32
  let v739 : BitVec 32 := Scalar.muli v6 c1_i32_674
  let v740 : BitVec 32 := Scalar.addi v738 v739
  v740.toNat
def k0_off13 (d0 : Dev nD) : Fin 2 → Nat :=
  let c4608_i32 : BitVec 32 := 4608#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_679 : BitVec 32 := 1024#32
  let v749 : BitVec 32 := Scalar.muli v5 c1024_i32_679
  ![4608, v749.toNat]
def k0_dev19 (d0 : Dev nD) : Nat :=
  let c0_i32_723 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_722 : BitVec 32 := 2#32
  let v788 : BitVec 32 := Scalar.muli v7 c2_i32_722
  let v789 : BitVec 32 := Scalar.addi c0_i32_723 v788
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_724 : BitVec 32 := 1#32
  let v790 : BitVec 32 := Scalar.muli v5 c1_i32_724
  let v791 : BitVec 32 := Scalar.addi v789 v790
  v791.toNat
def k0_dev20 (d0 : Dev nD) : Nat :=
  let c0_i32_757 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_756 : BitVec 32 := 2#32
  let v828 : BitVec 32 := Scalar.muli v2 c2_i32_756
  let v829 : BitVec 32 := Scalar.addi c0_i32_757 v828
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_758 : BitVec 32 := 1#32
  let v830 : BitVec 32 := Scalar.muli v6 c1_i32_758
  let v831 : BitVec 32 := Scalar.addi v829 v830
  v831.toNat
def k0_off14 (d0 : Dev nD) : Fin 2 → Nat :=
  let c5120_i32 : BitVec 32 := 5120#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_763 : BitVec 32 := 1024#32
  let v840 : BitVec 32 := Scalar.muli v5 c1024_i32_763
  ![5120, v840.toNat]
def k0_dev21 (d0 : Dev nD) : Nat :=
  let c0_i32_807 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_806 : BitVec 32 := 2#32
  let v879 : BitVec 32 := Scalar.muli v7 c2_i32_806
  let v880 : BitVec 32 := Scalar.addi c0_i32_807 v879
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_808 : BitVec 32 := 1#32
  let v881 : BitVec 32 := Scalar.muli v5 c1_i32_808
  let v882 : BitVec 32 := Scalar.addi v880 v881
  v882.toNat
def k0_dev22 (d0 : Dev nD) : Nat :=
  let c0_i32_840 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_839 : BitVec 32 := 2#32
  let v919 : BitVec 32 := Scalar.muli v2 c2_i32_839
  let v920 : BitVec 32 := Scalar.addi c0_i32_840 v919
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_841 : BitVec 32 := 1#32
  let v921 : BitVec 32 := Scalar.muli v6 c1_i32_841
  let v922 : BitVec 32 := Scalar.addi v920 v921
  v922.toNat
def k0_off15 (d0 : Dev nD) : Fin 2 → Nat :=
  let c5632_i32 : BitVec 32 := 5632#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_846 : BitVec 32 := 1024#32
  let v931 : BitVec 32 := Scalar.muli v5 c1024_i32_846
  ![5632, v931.toNat]
def k0_dev23 (d0 : Dev nD) : Nat :=
  let c0_i32_890 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_889 : BitVec 32 := 2#32
  let v970 : BitVec 32 := Scalar.muli v7 c2_i32_889
  let v971 : BitVec 32 := Scalar.addi c0_i32_890 v970
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_891 : BitVec 32 := 1#32
  let v972 : BitVec 32 := Scalar.muli v5 c1_i32_891
  let v973 : BitVec 32 := Scalar.addi v971 v972
  v973.toNat
def k0_dev24 (d0 : Dev nD) : Nat :=
  let c0_i32_924 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_923 : BitVec 32 := 2#32
  let v1010 : BitVec 32 := Scalar.muli v2 c2_i32_923
  let v1011 : BitVec 32 := Scalar.addi c0_i32_924 v1010
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_925 : BitVec 32 := 1#32
  let v1012 : BitVec 32 := Scalar.muli v6 c1_i32_925
  let v1013 : BitVec 32 := Scalar.addi v1011 v1012
  v1013.toNat
def k0_off16 (d0 : Dev nD) : Fin 2 → Nat :=
  let c6144_i32 : BitVec 32 := 6144#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_930 : BitVec 32 := 1024#32
  let v1022 : BitVec 32 := Scalar.muli v5 c1024_i32_930
  ![6144, v1022.toNat]
def k0_dev25 (d0 : Dev nD) : Nat :=
  let c0_i32_974 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_973 : BitVec 32 := 2#32
  let v1061 : BitVec 32 := Scalar.muli v7 c2_i32_973
  let v1062 : BitVec 32 := Scalar.addi c0_i32_974 v1061
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_975 : BitVec 32 := 1#32
  let v1063 : BitVec 32 := Scalar.muli v5 c1_i32_975
  let v1064 : BitVec 32 := Scalar.addi v1062 v1063
  v1064.toNat
def k0_dev26 (d0 : Dev nD) : Nat :=
  let c0_i32_1007 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1006 : BitVec 32 := 2#32
  let v1101 : BitVec 32 := Scalar.muli v2 c2_i32_1006
  let v1102 : BitVec 32 := Scalar.addi c0_i32_1007 v1101
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1008 : BitVec 32 := 1#32
  let v1103 : BitVec 32 := Scalar.muli v6 c1_i32_1008
  let v1104 : BitVec 32 := Scalar.addi v1102 v1103
  v1104.toNat
def k0_off17 (d0 : Dev nD) : Fin 2 → Nat :=
  let c6656_i32 : BitVec 32 := 6656#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1013 : BitVec 32 := 1024#32
  let v1113 : BitVec 32 := Scalar.muli v5 c1024_i32_1013
  ![6656, v1113.toNat]
def k0_dev27 (d0 : Dev nD) : Nat :=
  let c0_i32_1057 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1056 : BitVec 32 := 2#32
  let v1152 : BitVec 32 := Scalar.muli v7 c2_i32_1056
  let v1153 : BitVec 32 := Scalar.addi c0_i32_1057 v1152
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1058 : BitVec 32 := 1#32
  let v1154 : BitVec 32 := Scalar.muli v5 c1_i32_1058
  let v1155 : BitVec 32 := Scalar.addi v1153 v1154
  v1155.toNat
def k0_dev28 (d0 : Dev nD) : Nat :=
  let c0_i32_1091 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1090 : BitVec 32 := 2#32
  let v1192 : BitVec 32 := Scalar.muli v2 c2_i32_1090
  let v1193 : BitVec 32 := Scalar.addi c0_i32_1091 v1192
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1092 : BitVec 32 := 1#32
  let v1194 : BitVec 32 := Scalar.muli v6 c1_i32_1092
  let v1195 : BitVec 32 := Scalar.addi v1193 v1194
  v1195.toNat
def k0_off18 (d0 : Dev nD) : Fin 2 → Nat :=
  let c7168_i32 : BitVec 32 := 7168#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1097 : BitVec 32 := 1024#32
  let v1204 : BitVec 32 := Scalar.muli v5 c1024_i32_1097
  ![7168, v1204.toNat]
def k0_dev29 (d0 : Dev nD) : Nat :=
  let c0_i32_1141 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1140 : BitVec 32 := 2#32
  let v1243 : BitVec 32 := Scalar.muli v7 c2_i32_1140
  let v1244 : BitVec 32 := Scalar.addi c0_i32_1141 v1243
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1142 : BitVec 32 := 1#32
  let v1245 : BitVec 32 := Scalar.muli v5 c1_i32_1142
  let v1246 : BitVec 32 := Scalar.addi v1244 v1245
  v1246.toNat
def k0_dev30 (d0 : Dev nD) : Nat :=
  let c0_i32_1174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1173 : BitVec 32 := 2#32
  let v1283 : BitVec 32 := Scalar.muli v2 c2_i32_1173
  let v1284 : BitVec 32 := Scalar.addi c0_i32_1174 v1283
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1175 : BitVec 32 := 1#32
  let v1285 : BitVec 32 := Scalar.muli v6 c1_i32_1175
  let v1286 : BitVec 32 := Scalar.addi v1284 v1285
  v1286.toNat
def k0_off19 (d0 : Dev nD) : Fin 2 → Nat :=
  let c7680_i32 : BitVec 32 := 7680#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1180 : BitVec 32 := 1024#32
  let v1295 : BitVec 32 := Scalar.muli v5 c1024_i32_1180
  ![7680, v1295.toNat]
def k0_dev31 (d0 : Dev nD) : Nat :=
  let c0_i32_1224 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1223 : BitVec 32 := 2#32
  let v1334 : BitVec 32 := Scalar.muli v7 c2_i32_1223
  let v1335 : BitVec 32 := Scalar.addi c0_i32_1224 v1334
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1225 : BitVec 32 := 1#32
  let v1336 : BitVec 32 := Scalar.muli v5 c1_i32_1225
  let v1337 : BitVec 32 := Scalar.addi v1335 v1336
  v1337.toNat
def k0_dev32 (d0 : Dev nD) : Nat :=
  let c0_i32_1258 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1257 : BitVec 32 := 2#32
  let v1374 : BitVec 32 := Scalar.muli v2 c2_i32_1257
  let v1375 : BitVec 32 := Scalar.addi c0_i32_1258 v1374
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1259 : BitVec 32 := 1#32
  let v1376 : BitVec 32 := Scalar.muli v6 c1_i32_1259
  let v1377 : BitVec 32 := Scalar.addi v1375 v1376
  v1377.toNat
def k0_off20 (d0 : Dev nD) : Fin 2 → Nat :=
  let c8192_i32_1269 : BitVec 32 := 8192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1264 : BitVec 32 := 1024#32
  let v1386 : BitVec 32 := Scalar.muli v5 c1024_i32_1264
  ![8192, v1386.toNat]
def k0_dev33 (d0 : Dev nD) : Nat :=
  let c0_i32_1309 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1308 : BitVec 32 := 2#32
  let v1425 : BitVec 32 := Scalar.muli v7 c2_i32_1308
  let v1426 : BitVec 32 := Scalar.addi c0_i32_1309 v1425
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1310 : BitVec 32 := 1#32
  let v1427 : BitVec 32 := Scalar.muli v5 c1_i32_1310
  let v1428 : BitVec 32 := Scalar.addi v1426 v1427
  v1428.toNat
def k0_dev34 (d0 : Dev nD) : Nat :=
  let c0_i32_1352 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1351 : BitVec 32 := 2#32
  let v1471 : BitVec 32 := Scalar.muli v2 c2_i32_1351
  let v1472 : BitVec 32 := Scalar.addi c0_i32_1352 v1471
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1353 : BitVec 32 := 1#32
  let v1473 : BitVec 32 := Scalar.muli v6 c1_i32_1353
  let v1474 : BitVec 32 := Scalar.addi v1472 v1473
  v1474.toNat
def k0_off21 (d0 : Dev nD) : Fin 2 → Nat :=
  let c8704_i32 : BitVec 32 := 8704#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1358 : BitVec 32 := 1024#32
  let v1483 : BitVec 32 := Scalar.muli v5 c1024_i32_1358
  ![8704, v1483.toNat]
def k0_dev35 (d0 : Dev nD) : Nat :=
  let c0_i32_1402 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1401 : BitVec 32 := 2#32
  let v1522 : BitVec 32 := Scalar.muli v7 c2_i32_1401
  let v1523 : BitVec 32 := Scalar.addi c0_i32_1402 v1522
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1403 : BitVec 32 := 1#32
  let v1524 : BitVec 32 := Scalar.muli v5 c1_i32_1403
  let v1525 : BitVec 32 := Scalar.addi v1523 v1524
  v1525.toNat
def k0_dev36 (d0 : Dev nD) : Nat :=
  let c0_i32_1446 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1445 : BitVec 32 := 2#32
  let v1568 : BitVec 32 := Scalar.muli v2 c2_i32_1445
  let v1569 : BitVec 32 := Scalar.addi c0_i32_1446 v1568
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1447 : BitVec 32 := 1#32
  let v1570 : BitVec 32 := Scalar.muli v6 c1_i32_1447
  let v1571 : BitVec 32 := Scalar.addi v1569 v1570
  v1571.toNat
def k0_off22 (d0 : Dev nD) : Fin 2 → Nat :=
  let c9216_i32 : BitVec 32 := 9216#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1452 : BitVec 32 := 1024#32
  let v1580 : BitVec 32 := Scalar.muli v5 c1024_i32_1452
  ![9216, v1580.toNat]
def k0_dev37 (d0 : Dev nD) : Nat :=
  let c0_i32_1496 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1495 : BitVec 32 := 2#32
  let v1619 : BitVec 32 := Scalar.muli v7 c2_i32_1495
  let v1620 : BitVec 32 := Scalar.addi c0_i32_1496 v1619
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1497 : BitVec 32 := 1#32
  let v1621 : BitVec 32 := Scalar.muli v5 c1_i32_1497
  let v1622 : BitVec 32 := Scalar.addi v1620 v1621
  v1622.toNat
def k0_dev38 (d0 : Dev nD) : Nat :=
  let c0_i32_1539 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1538 : BitVec 32 := 2#32
  let v1665 : BitVec 32 := Scalar.muli v2 c2_i32_1538
  let v1666 : BitVec 32 := Scalar.addi c0_i32_1539 v1665
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1540 : BitVec 32 := 1#32
  let v1667 : BitVec 32 := Scalar.muli v6 c1_i32_1540
  let v1668 : BitVec 32 := Scalar.addi v1666 v1667
  v1668.toNat
def k0_off23 (d0 : Dev nD) : Fin 2 → Nat :=
  let c9728_i32 : BitVec 32 := 9728#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1545 : BitVec 32 := 1024#32
  let v1677 : BitVec 32 := Scalar.muli v5 c1024_i32_1545
  ![9728, v1677.toNat]
def k0_dev39 (d0 : Dev nD) : Nat :=
  let c0_i32_1589 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1588 : BitVec 32 := 2#32
  let v1716 : BitVec 32 := Scalar.muli v7 c2_i32_1588
  let v1717 : BitVec 32 := Scalar.addi c0_i32_1589 v1716
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1590 : BitVec 32 := 1#32
  let v1718 : BitVec 32 := Scalar.muli v5 c1_i32_1590
  let v1719 : BitVec 32 := Scalar.addi v1717 v1718
  v1719.toNat
def k0_dev40 (d0 : Dev nD) : Nat :=
  let c0_i32_1633 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1632 : BitVec 32 := 2#32
  let v1762 : BitVec 32 := Scalar.muli v2 c2_i32_1632
  let v1763 : BitVec 32 := Scalar.addi c0_i32_1633 v1762
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1634 : BitVec 32 := 1#32
  let v1764 : BitVec 32 := Scalar.muli v6 c1_i32_1634
  let v1765 : BitVec 32 := Scalar.addi v1763 v1764
  v1765.toNat
def k0_off24 (d0 : Dev nD) : Fin 2 → Nat :=
  let c10240_i32 : BitVec 32 := 10240#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1639 : BitVec 32 := 1024#32
  let v1774 : BitVec 32 := Scalar.muli v5 c1024_i32_1639
  ![10240, v1774.toNat]
def k0_dev41 (d0 : Dev nD) : Nat :=
  let c0_i32_1683 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1682 : BitVec 32 := 2#32
  let v1813 : BitVec 32 := Scalar.muli v7 c2_i32_1682
  let v1814 : BitVec 32 := Scalar.addi c0_i32_1683 v1813
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1684 : BitVec 32 := 1#32
  let v1815 : BitVec 32 := Scalar.muli v5 c1_i32_1684
  let v1816 : BitVec 32 := Scalar.addi v1814 v1815
  v1816.toNat
def k0_dev42 (d0 : Dev nD) : Nat :=
  let c0_i32_1726 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1725 : BitVec 32 := 2#32
  let v1859 : BitVec 32 := Scalar.muli v2 c2_i32_1725
  let v1860 : BitVec 32 := Scalar.addi c0_i32_1726 v1859
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1727 : BitVec 32 := 1#32
  let v1861 : BitVec 32 := Scalar.muli v6 c1_i32_1727
  let v1862 : BitVec 32 := Scalar.addi v1860 v1861
  v1862.toNat
def k0_off25 (d0 : Dev nD) : Fin 2 → Nat :=
  let c10752_i32 : BitVec 32 := 10752#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1732 : BitVec 32 := 1024#32
  let v1871 : BitVec 32 := Scalar.muli v5 c1024_i32_1732
  ![10752, v1871.toNat]
def k0_dev43 (d0 : Dev nD) : Nat :=
  let c0_i32_1776 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1775 : BitVec 32 := 2#32
  let v1910 : BitVec 32 := Scalar.muli v7 c2_i32_1775
  let v1911 : BitVec 32 := Scalar.addi c0_i32_1776 v1910
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1777 : BitVec 32 := 1#32
  let v1912 : BitVec 32 := Scalar.muli v5 c1_i32_1777
  let v1913 : BitVec 32 := Scalar.addi v1911 v1912
  v1913.toNat
def k0_dev44 (d0 : Dev nD) : Nat :=
  let c0_i32_1820 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1819 : BitVec 32 := 2#32
  let v1956 : BitVec 32 := Scalar.muli v2 c2_i32_1819
  let v1957 : BitVec 32 := Scalar.addi c0_i32_1820 v1956
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1821 : BitVec 32 := 1#32
  let v1958 : BitVec 32 := Scalar.muli v6 c1_i32_1821
  let v1959 : BitVec 32 := Scalar.addi v1957 v1958
  v1959.toNat
def k0_off26 (d0 : Dev nD) : Fin 2 → Nat :=
  let c11264_i32 : BitVec 32 := 11264#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1826 : BitVec 32 := 1024#32
  let v1968 : BitVec 32 := Scalar.muli v5 c1024_i32_1826
  ![11264, v1968.toNat]
def k0_dev45 (d0 : Dev nD) : Nat :=
  let c0_i32_1870 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1869 : BitVec 32 := 2#32
  let v2007 : BitVec 32 := Scalar.muli v7 c2_i32_1869
  let v2008 : BitVec 32 := Scalar.addi c0_i32_1870 v2007
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1871 : BitVec 32 := 1#32
  let v2009 : BitVec 32 := Scalar.muli v5 c1_i32_1871
  let v2010 : BitVec 32 := Scalar.addi v2008 v2009
  v2010.toNat
def k0_dev46 (d0 : Dev nD) : Nat :=
  let c0_i32_1913 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1912 : BitVec 32 := 2#32
  let v2053 : BitVec 32 := Scalar.muli v2 c2_i32_1912
  let v2054 : BitVec 32 := Scalar.addi c0_i32_1913 v2053
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1914 : BitVec 32 := 1#32
  let v2055 : BitVec 32 := Scalar.muli v6 c1_i32_1914
  let v2056 : BitVec 32 := Scalar.addi v2054 v2055
  v2056.toNat
def k0_off27 (d0 : Dev nD) : Fin 2 → Nat :=
  let c11776_i32 : BitVec 32 := 11776#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1919 : BitVec 32 := 1024#32
  let v2065 : BitVec 32 := Scalar.muli v5 c1024_i32_1919
  ![11776, v2065.toNat]
def k0_dev47 (d0 : Dev nD) : Nat :=
  let c0_i32_1963 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1962 : BitVec 32 := 2#32
  let v2104 : BitVec 32 := Scalar.muli v7 c2_i32_1962
  let v2105 : BitVec 32 := Scalar.addi c0_i32_1963 v2104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1964 : BitVec 32 := 1#32
  let v2106 : BitVec 32 := Scalar.muli v5 c1_i32_1964
  let v2107 : BitVec 32 := Scalar.addi v2105 v2106
  v2107.toNat
def k0_dev48 (d0 : Dev nD) : Nat :=
  let c0_i32_2007 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2006 : BitVec 32 := 2#32
  let v2150 : BitVec 32 := Scalar.muli v2 c2_i32_2006
  let v2151 : BitVec 32 := Scalar.addi c0_i32_2007 v2150
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2008 : BitVec 32 := 1#32
  let v2152 : BitVec 32 := Scalar.muli v6 c1_i32_2008
  let v2153 : BitVec 32 := Scalar.addi v2151 v2152
  v2153.toNat
def k0_off28 (d0 : Dev nD) : Fin 2 → Nat :=
  let c12288_i32 : BitVec 32 := 12288#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_2013 : BitVec 32 := 1024#32
  let v2162 : BitVec 32 := Scalar.muli v5 c1024_i32_2013
  ![12288, v2162.toNat]
def k0_dev49 (d0 : Dev nD) : Nat :=
  let c0_i32_2057 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2056 : BitVec 32 := 2#32
  let v2201 : BitVec 32 := Scalar.muli v7 c2_i32_2056
  let v2202 : BitVec 32 := Scalar.addi c0_i32_2057 v2201
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2058 : BitVec 32 := 1#32
  let v2203 : BitVec 32 := Scalar.muli v5 c1_i32_2058
  let v2204 : BitVec 32 := Scalar.addi v2202 v2203
  v2204.toNat
def k0_dev50 (d0 : Dev nD) : Nat :=
  let c0_i32_2100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2099 : BitVec 32 := 2#32
  let v2247 : BitVec 32 := Scalar.muli v2 c2_i32_2099
  let v2248 : BitVec 32 := Scalar.addi c0_i32_2100 v2247
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2101 : BitVec 32 := 1#32
  let v2249 : BitVec 32 := Scalar.muli v6 c1_i32_2101
  let v2250 : BitVec 32 := Scalar.addi v2248 v2249
  v2250.toNat
def k0_off29 (d0 : Dev nD) : Fin 2 → Nat :=
  let c12800_i32 : BitVec 32 := 12800#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_2106 : BitVec 32 := 1024#32
  let v2259 : BitVec 32 := Scalar.muli v5 c1024_i32_2106
  ![12800, v2259.toNat]
def k0_dev51 (d0 : Dev nD) : Nat :=
  let c0_i32_2150 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2149 : BitVec 32 := 2#32
  let v2298 : BitVec 32 := Scalar.muli v7 c2_i32_2149
  let v2299 : BitVec 32 := Scalar.addi c0_i32_2150 v2298
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2151 : BitVec 32 := 1#32
  let v2300 : BitVec 32 := Scalar.muli v5 c1_i32_2151
  let v2301 : BitVec 32 := Scalar.addi v2299 v2300
  v2301.toNat
def k0_dev52 (d0 : Dev nD) : Nat :=
  let c0_i32_2194 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2193 : BitVec 32 := 2#32
  let v2344 : BitVec 32 := Scalar.muli v2 c2_i32_2193
  let v2345 : BitVec 32 := Scalar.addi c0_i32_2194 v2344
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2195 : BitVec 32 := 1#32
  let v2346 : BitVec 32 := Scalar.muli v6 c1_i32_2195
  let v2347 : BitVec 32 := Scalar.addi v2345 v2346
  v2347.toNat
def k0_off30 (d0 : Dev nD) : Fin 2 → Nat :=
  let c13312_i32 : BitVec 32 := 13312#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_2200 : BitVec 32 := 1024#32
  let v2356 : BitVec 32 := Scalar.muli v5 c1024_i32_2200
  ![13312, v2356.toNat]
def k0_dev53 (d0 : Dev nD) : Nat :=
  let c0_i32_2244 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2243 : BitVec 32 := 2#32
  let v2395 : BitVec 32 := Scalar.muli v7 c2_i32_2243
  let v2396 : BitVec 32 := Scalar.addi c0_i32_2244 v2395
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2245 : BitVec 32 := 1#32
  let v2397 : BitVec 32 := Scalar.muli v5 c1_i32_2245
  let v2398 : BitVec 32 := Scalar.addi v2396 v2397
  v2398.toNat
def k0_dev54 (d0 : Dev nD) : Nat :=
  let c0_i32_2287 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2286 : BitVec 32 := 2#32
  let v2441 : BitVec 32 := Scalar.muli v2 c2_i32_2286
  let v2442 : BitVec 32 := Scalar.addi c0_i32_2287 v2441
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2288 : BitVec 32 := 1#32
  let v2443 : BitVec 32 := Scalar.muli v6 c1_i32_2288
  let v2444 : BitVec 32 := Scalar.addi v2442 v2443
  v2444.toNat
def k0_off31 (d0 : Dev nD) : Fin 2 → Nat :=
  let c13824_i32 : BitVec 32 := 13824#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_2293 : BitVec 32 := 1024#32
  let v2453 : BitVec 32 := Scalar.muli v5 c1024_i32_2293
  ![13824, v2453.toNat]
def k0_dev55 (d0 : Dev nD) : Nat :=
  let c0_i32_2337 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2336 : BitVec 32 := 2#32
  let v2492 : BitVec 32 := Scalar.muli v7 c2_i32_2336
  let v2493 : BitVec 32 := Scalar.addi c0_i32_2337 v2492
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2338 : BitVec 32 := 1#32
  let v2494 : BitVec 32 := Scalar.muli v5 c1_i32_2338
  let v2495 : BitVec 32 := Scalar.addi v2493 v2494
  v2495.toNat
def k0_dev56 (d0 : Dev nD) : Nat :=
  let c0_i32_2381 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2380 : BitVec 32 := 2#32
  let v2538 : BitVec 32 := Scalar.muli v2 c2_i32_2380
  let v2539 : BitVec 32 := Scalar.addi c0_i32_2381 v2538
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2382 : BitVec 32 := 1#32
  let v2540 : BitVec 32 := Scalar.muli v6 c1_i32_2382
  let v2541 : BitVec 32 := Scalar.addi v2539 v2540
  v2541.toNat
def k0_off32 (d0 : Dev nD) : Fin 2 → Nat :=
  let c14336_i32 : BitVec 32 := 14336#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_2387 : BitVec 32 := 1024#32
  let v2550 : BitVec 32 := Scalar.muli v5 c1024_i32_2387
  ![14336, v2550.toNat]
def k0_dev57 (d0 : Dev nD) : Nat :=
  let c0_i32_2431 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2430 : BitVec 32 := 2#32
  let v2589 : BitVec 32 := Scalar.muli v7 c2_i32_2430
  let v2590 : BitVec 32 := Scalar.addi c0_i32_2431 v2589
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2432 : BitVec 32 := 1#32
  let v2591 : BitVec 32 := Scalar.muli v5 c1_i32_2432
  let v2592 : BitVec 32 := Scalar.addi v2590 v2591
  v2592.toNat
def k0_dev58 (d0 : Dev nD) : Nat :=
  let c0_i32_2474 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2473 : BitVec 32 := 2#32
  let v2635 : BitVec 32 := Scalar.muli v2 c2_i32_2473
  let v2636 : BitVec 32 := Scalar.addi c0_i32_2474 v2635
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2475 : BitVec 32 := 1#32
  let v2637 : BitVec 32 := Scalar.muli v6 c1_i32_2475
  let v2638 : BitVec 32 := Scalar.addi v2636 v2637
  v2638.toNat
def k0_off33 (d0 : Dev nD) : Fin 2 → Nat :=
  let c14848_i32 : BitVec 32 := 14848#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_2480 : BitVec 32 := 1024#32
  let v2647 : BitVec 32 := Scalar.muli v5 c1024_i32_2480
  ![14848, v2647.toNat]
def k0_dev59 (d0 : Dev nD) : Nat :=
  let c0_i32_2524 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2523 : BitVec 32 := 2#32
  let v2686 : BitVec 32 := Scalar.muli v7 c2_i32_2523
  let v2687 : BitVec 32 := Scalar.addi c0_i32_2524 v2686
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2525 : BitVec 32 := 1#32
  let v2688 : BitVec 32 := Scalar.muli v5 c1_i32_2525
  let v2689 : BitVec 32 := Scalar.addi v2687 v2688
  v2689.toNat
def k0_dev60 (d0 : Dev nD) : Nat :=
  let c0_i32_2568 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2567 : BitVec 32 := 2#32
  let v2732 : BitVec 32 := Scalar.muli v2 c2_i32_2567
  let v2733 : BitVec 32 := Scalar.addi c0_i32_2568 v2732
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2569 : BitVec 32 := 1#32
  let v2734 : BitVec 32 := Scalar.muli v6 c1_i32_2569
  let v2735 : BitVec 32 := Scalar.addi v2733 v2734
  v2735.toNat
def k0_off34 (d0 : Dev nD) : Fin 2 → Nat :=
  let c15360_i32 : BitVec 32 := 15360#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_2574 : BitVec 32 := 1024#32
  let v2744 : BitVec 32 := Scalar.muli v5 c1024_i32_2574
  ![15360, v2744.toNat]
def k0_dev61 (d0 : Dev nD) : Nat :=
  let c0_i32_2618 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2617 : BitVec 32 := 2#32
  let v2783 : BitVec 32 := Scalar.muli v7 c2_i32_2617
  let v2784 : BitVec 32 := Scalar.addi c0_i32_2618 v2783
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2619 : BitVec 32 := 1#32
  let v2785 : BitVec 32 := Scalar.muli v5 c1_i32_2619
  let v2786 : BitVec 32 := Scalar.addi v2784 v2785
  v2786.toNat
def k0_dev62 (d0 : Dev nD) : Nat :=
  let c0_i32_2661 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2660 : BitVec 32 := 2#32
  let v2829 : BitVec 32 := Scalar.muli v2 c2_i32_2660
  let v2830 : BitVec 32 := Scalar.addi c0_i32_2661 v2829
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2662 : BitVec 32 := 1#32
  let v2831 : BitVec 32 := Scalar.muli v6 c1_i32_2662
  let v2832 : BitVec 32 := Scalar.addi v2830 v2831
  v2832.toNat
def k0_off35 (d0 : Dev nD) : Fin 2 → Nat :=
  let c15872_i32 : BitVec 32 := 15872#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_2667 : BitVec 32 := 1024#32
  let v2841 : BitVec 32 := Scalar.muli v5 c1024_i32_2667
  ![15872, v2841.toNat]
def k0_dev63 (d0 : Dev nD) : Nat :=
  let c0_i32_2711 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2710 : BitVec 32 := 2#32
  let v2880 : BitVec 32 := Scalar.muli v7 c2_i32_2710
  let v2881 : BitVec 32 := Scalar.addi c0_i32_2711 v2880
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2712 : BitVec 32 := 1#32
  let v2882 : BitVec 32 := Scalar.muli v5 c1_i32_2712
  let v2883 : BitVec 32 := Scalar.addi v2881 v2882
  v2883.toNat
def k0_dev64 (d0 : Dev nD) : Nat :=
  let c0_i32_2748 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2747 : BitVec 32 := 2#32
  let v2918 : BitVec 32 := Scalar.muli v2 c2_i32_2747
  let v2919 : BitVec 32 := Scalar.addi c0_i32_2748 v2918
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2749 : BitVec 32 := 1#32
  let v2920 : BitVec 32 := Scalar.muli v6 c1_i32_2749
  let v2921 : BitVec 32 := Scalar.addi v2919 v2920
  v2921.toNat
def k0_dev65 (d0 : Dev nD) : Nat :=
  let c0_i32_2793 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2792 : BitVec 32 := 2#32
  let v2963 : BitVec 32 := Scalar.muli v7 c2_i32_2792
  let v2964 : BitVec 32 := Scalar.addi c0_i32_2793 v2963
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2794 : BitVec 32 := 1#32
  let v2965 : BitVec 32 := Scalar.muli v5 c1_i32_2794
  let v2966 : BitVec 32 := Scalar.addi v2964 v2965
  v2966.toNat
def k0_dev66 (d0 : Dev nD) : Nat :=
  let c0_i32_2823 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2822 : BitVec 32 := 2#32
  let v2994 : BitVec 32 := Scalar.muli v7 c2_i32_2822
  let v2995 : BitVec 32 := Scalar.addi c0_i32_2823 v2994
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2824 : BitVec 32 := 1#32
  let v2996 : BitVec 32 := Scalar.muli v5 c1_i32_2824
  let v2997 : BitVec 32 := Scalar.addi v2995 v2996
  v2997.toNat
def k0_off36 (d0 : Dev nD) (c0_i32_2850 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c16384_i32_2848 : BitVec 32 := 16384#32
  let v3025 : BitVec 32 := Scalar.muli v6 c16384_i32_2848
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c8192_i32_2849 : BitVec 32 := 8192#32
  let v3026 : BitVec 32 := Scalar.muli v7 c8192_i32_2849
  let v3027 : BitVec 32 := Scalar.addi v3025 v3026
  let v3028 : BitVec 32 := Scalar.addi v3027 c0_i32_2850
  let c0_i32_2853 : BitVec 32 := 0#32
  ![v3028.toNat, 0]
-- ==== ReferenceIdeal.lean ====
abbrev S32768x2048 : Shape := ⟨2, ![32768, 2048]⟩

abbrev nBuf : Space → Nat
  | .hbm => 2
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Prog.lean ====
/- The kernel's body as a short program over its chunks: every memory operation of the printed body
   is one definition below, with the chunk it works on as an argument, and the loops the printed text
   has unrolled are recursions over the chunks again. `bodyAt_eq` says the two are the same program. -/
module

public import proofs.«01_k».proof.Proof.Gen.KernelIdeal.Points

@[expose] public section

noncomputable section

namespace Cert.KernelIdeal.Kx

open Idealize.ShloMosaic Idealize.SL.Sem
open Cert.KernelIdeal Cert.KernelIdeal.Gen

variable {F : FTy → Type} [FloatOps F]

/-! ## Devices and slots -/

/-- The device that shares this one's first mesh coordinate. -/
abbrev peerY (d : Dev nD) : Dev nD := ⟨k0_dev1 d, k0_dev1_lt d⟩

/-- The device that shares this one's second mesh coordinate. -/
abbrev peerX (d : Dev nD) : Dev nD := ⟨k0_dev2 d, k0_dev2_lt d⟩

/-- The staging slot of a chunk. -/
abbrev par (k : Fin 32) : Fin 2 := ⟨k.val % 2, Nat.mod_lt _ (by decide)⟩

/-- The send-buffer slot of a chunk. -/
abbrev slot (k : Fin 32) : Fin 16 := ⟨k.val % 16, Nat.mod_lt _ (by decide)⟩

theorem inb2 : ∀ s : Fin 2, ∀ a, (![s.val] : Fin 1 → ℕ) a + S1.size a ≤ S2.size a := by decide
theorem inb32 : ∀ s : Fin 32, ∀ a, (![s.val] : Fin 1 → ℕ) a + S1.size a ≤ S32.size a := by decide
theorem inbSt : ∀ s : Fin 2, ∀ a, (![s.val, 0, 0] : Fin 3 → ℕ) a + S1x256x1024.size a ≤ S2x256x1024.size a := by decide
theorem inbSd : ∀ s : Fin 16, ∀ a, (![s.val, 0, 0] : Fin 3 → ℕ) a + S1x256x1024.size a ≤ S16x256x1024.size a := by decide
theorem inbRv : ∀ s : Fin 32, ∀ a, (![s.val, 0, 0] : Fin 3 → ℕ) a + S1x256x1024.size a ≤ S32x256x1024.size a := by decide
theorem inbLs : ∀ s : Fin 2, ∀ a, (![s.val, 0, 0] : Fin 3 → ℕ) a + S1x512x1024.size a ≤ S2x512x1024.size a := by decide

theorem wordsSd : ∀ s : Fin 16, (Rect.unit (s := S16x256x1024) ![s.val, 0, 0] S1x256x1024.size (inbSd s)).WholeWords (EltTy.packing .bf16) := by decide
theorem wordsRv : ∀ s : Fin 32, (Rect.unit (s := S32x256x1024) ![s.val, 0, 0] S1x256x1024.size (inbRv s)).WholeWords (EltTy.packing .bf16) := by decide
theorem wordsLs : ∀ s : Fin 2, (Rect.unit (s := S2x512x1024) ![s.val, 0, 0] S1x512x1024.size (inbLs s)).WholeWords (EltTy.packing .bf16) := by decide
theorem packedSd : ∀ s : Fin 16, (Rect.unit (s := S16x256x1024) ![s.val, 0, 0] S1x256x1024.size (inbSd s)).PackedRows (EltTy.packing .bf16) := by decide
theorem packedLs : ∀ s : Fin 2, (Rect.unit (s := S2x512x1024) ![s.val, 0, 0] S1x512x1024.size (inbLs s)).PackedRows (EltTy.packing .bf16) := by decide

/-- Where block `j` of the device's own columns begins in its part of the operand. -/
def offL (d : Dev nD) (j : Fin 32) : Fin 2 → ℕ := ![512 * j.val, (Scalar.muli (Scalar.remsi (Scalar.divsi (Dev.word d) 1#32) 2#32) 1024#32).toNat]

theorem offL_inb : ∀ d : Dev nD, ∀ j : Fin 32, ∀ a, (offL d j) a + S512x1024.size a ≤ S16384x2048.size a := by decide +kernel

/-! ## Views -/

abbrev aX : Memref sig .tc .hbm S16384x2048 .f32 := Memref.whole main_arg0
abbrev aO : Memref sig .tc .hbm S32768x1024 .bf16 := Memref.whole main_v1
abbrev aYst : Memref sig .tc .vmem S2x256x1024 .f32 := Memref.whole cc0_scratch0
abbrev aSnd : Memref sig .tc .vmem S16x256x1024 .bf16 := Memref.whole cc0_scratch1
abbrev aYb : Memref sig .tc .vmem S32x256x1024 .bf16 := Memref.whole cc0_scratch2
abbrev aXb : Memref sig .tc .vmem S32x256x1024 .bf16 := Memref.whole cc0_scratch3
abbrev aLst : Memref sig .tc .vmem S2x512x1024 .f32 := Memref.whole cc0_scratch4
abbrev aLb : Memref sig .tc .vmem S2x512x1024 .bf16 := Memref.whole cc0_scratch5

/-- The rows and columns of the operand that chunk `k` sends to the partner. -/
abbrev xY (d : Dev nD) (k : Fin 32) : Memref sig .tc .hbm S256x1024 .f32 :=
  aX.slice (Rect.unit (s := S16384x2048) (k0_off1 d (BitVec.ofNat 32 (256 * k.val))) S256x1024.size (k0_off1_inb d k)) (fun _ => rfl)
/-- The rows and columns of the operand the device keeps, block `j`. -/
abbrev xL (d : Dev nD) (j : Fin 32) : Memref sig .tc .hbm S512x1024 .f32 :=
  aX.slice (Rect.unit (s := S16384x2048) (offL d j) S512x1024.size (offL_inb d j)) (fun _ => rfl)
abbrev yst (s : Fin 2) : Memref sig .tc .vmem S256x1024 .f32 :=
  (aYst.slice (Rect.unit (s := S2x256x1024) ![s.val, 0, 0] S1x256x1024.size (inbSt s)) (fun _ => rfl)).squeeze S256x1024 squeezes_S1x256x1024_S256x1024
abbrev snd (s : Fin 16) : Memref sig .tc .vmem S256x1024 .bf16 :=
  (aSnd.slice (Rect.unit (s := S16x256x1024) ![s.val, 0, 0] S1x256x1024.size (inbSd s)) (fun _ => rfl)).squeeze S256x1024 squeezes_S1x256x1024_S256x1024
abbrev yb (k : Fin 32) : Memref sig .tc .vmem S256x1024 .bf16 :=
  (aYb.slice (Rect.unit (s := S32x256x1024) ![k.val, 0, 0] S1x256x1024.size (inbRv k)) (fun _ => rfl)).squeeze S256x1024 squeezes_S1x256x1024_S256x1024
abbrev xb (k : Fin 32) : Memref sig .tc .vmem S256x1024 .bf16 :=
  (aXb.slice (Rect.unit (s := S32x256x1024) ![k.val, 0, 0] S1x256x1024.size (inbRv k)) (fun _ => rfl)).squeeze S256x1024 squeezes_S1x256x1024_S256x1024
abbrev lst (s : Fin 2) : Memref sig .tc .vmem S512x1024 .f32 :=
  (aLst.slice (Rect.unit (s := S2x512x1024) ![s.val, 0, 0] S1x512x1024.size (inbLs s)) (fun _ => rfl)).squeeze S512x1024 squeezes_S1x512x1024_S512x1024
abbrev lb (s : Fin 2) : Memref sig .tc .vmem S512x1024 .bf16 :=
  (aLb.slice (Rect.unit (s := S2x512x1024) ![s.val, 0, 0] S1x512x1024.size (inbLs s)) (fun _ => rfl)).squeeze S512x1024 squeezes_S1x512x1024_S512x1024
/-- The block of the result that block `j` of the device's own rows fills. -/
abbrev oL (d : Dev nD) (j : Fin 32) : Memref sig .tc .hbm S512x1024 .bf16 :=
  aO.slice (Rect.unit (s := S32768x1024) (k0_off4 d (BitVec.ofNat 32 (512 * j.val))) S512x1024.size (k0_off4_inb d j)) (fun _ => rfl)
/-- The block of the result that chunk `k` of the partner's rows fills. -/
abbrev oY (d : Dev nD) (k : Fin 32) : Memref sig .tc .hbm S256x1024 .bf16 :=
  aO.slice (Rect.unit (s := S32768x1024) (k0_off6 d (BitVec.ofNat 32 (256 * k.val))) S256x1024.size (k0_off6_inb d k)) (fun _ => rfl)
/-- The block of the result that chunk `k` of the forwarded rows fills. -/
abbrev oX (d : Dev nD) (k : Fin 32) : Memref sig .tc .hbm S256x1024 .bf16 :=
  aO.slice (Rect.unit (s := S32768x1024) (k0_off36 d (BitVec.ofNat 32 (256 * k.val))) S256x1024.size (k0_off36_inb d k)) (fun _ => rfl)

/-! ## Semaphores -/

abbrev pick2 (A : DmaSems sig S2) (s : Fin 2) : DmaSem sig :=
  ((A.slice (Rect.unit (s := S2) ![s.val] S1.size (inb2 s))).squeeze S_ squeezes_S1_S_).sem
abbrev pick32 (A : DmaSems sig S32) (k : Fin 32) : DmaSem sig :=
  ((A.slice (Rect.unit (s := S32) ![k.val] S1.size (inb32 k))).squeeze S_ squeezes_S1_S_).sem

/-- The semaphores of the chunks' loads and of the stores of the device's own blocks. -/
abbrev sYld (s : Fin 2) : DmaSem sig := pick2 cc0_scratch6 s
abbrev sLld (s : Fin 2) : DmaSem sig := pick2 cc0_scratch7 s
abbrev sLst (s : Fin 2) : DmaSem sig := pick2 cc0_scratch14 s
/-- The semaphores of the two remote copies of a chunk, at its sender and at its receiver. -/
abbrev sYs (k : Fin 32) : DmaSem sig := pick32 cc0_scratch8 k
abbrev sYr (k : Fin 32) : DmaSem sig := pick32 cc0_scratch9 k
abbrev sXs (k : Fin 32) : DmaSem sig := pick32 cc0_scratch10 k
abbrev sXr (k : Fin 32) : DmaSem sig := pick32 cc0_scratch11 k
/-- The semaphores of the stores of the received chunks. -/
abbrev sYo (k : Fin 32) : DmaSem sig := pick32 cc0_scratch12 k
abbrev sXo (k : Fin 32) : DmaSem sig := pick32 cc0_scratch13 k
/-- The barrier semaphore. -/
abbrev sBar : Sem sig := (SemArray.scalar (sig.barrier 0 rfl) : Sems sig S_).sem

/-! ## The operations -/

/-- A staged chunk, narrowed. -/
def castY (v : Vec F S1x256x1024 .f32) : FVec F S1x256x1024 .bf16 :=
  shapeCast S1x256x1024 (truncf .bf16 (shapeCast S256x1024 v shapeCasts_S1x256x1024_S256x1024 : FVec F S256x1024 .f32) bitsLt_bf16_f32) shapeCasts_S256x1024_S1x256x1024
/-- A staged block, narrowed. -/
def castL (v : Vec F S1x512x1024 .f32) : FVec F S1x512x1024 .bf16 :=
  shapeCast S1x512x1024 (truncf .bf16 (shapeCast S512x1024 v shapeCasts_S1x512x1024_S512x1024 : FVec F S512x1024 .f32) bitsLt_bf16_f32) shapeCasts_S512x1024_S1x512x1024

variable (F) in
/-- What is left of the body to run. -/
abbrev Pg := Prog (TpuEff nD τ sig (Elt F) Λ₀ .tc) PUnit

abbrev wholeSnd : aSnd.IsWhole := Memref.isWhole_whole _
abbrev wholeYb : aYb.IsWhole := Memref.isWhole_whole _
abbrev wholeXb : aXb.IsWhole := Memref.isWhole_whole _
abbrev wholeLb : aLb.IsWhole := Memref.isWhole_whole _
abbrev wholeO : aO.IsWhole := Memref.isWhole_whole _

def yStart (d : Dev nD) (k : Fin 32) (K : Pg F) : Pg F :=
  .op (.enqueueDma (xY d k) (.here (yst (par k))) (.dma (sYld (par k))) (View.wordExact_bits rfl) ((View.wordExact_bits rfl).reshape _ _) ⟨Or.inl rfl, trivial⟩) fun _ => K
def yWait (d : Dev nD) (k : Fin 32) (K : Pg F) : Pg F :=
  .op (.waitDma2 (sYld (par k)) (xY d k) (yst (par k)) (View.wordExact_bits rfl) ((View.wordExact_bits rfl).reshape _ _)) fun _ => K
def lStart (d : Dev nD) (k : Fin 32) (K : Pg F) : Pg F :=
  .op (.enqueueDma (xL d k) (.here (lst (par k))) (.dma (sLld (par k))) (View.wordExact_bits rfl) ((View.wordExact_bits rfl).reshape _ _) ⟨Or.inl rfl, trivial⟩) fun _ => K
def lWait (d : Dev nD) (k : Fin 32) (K : Pg F) : Pg F :=
  .op (.waitDma2 (sLld (par k)) (xL d k) (lst (par k)) (View.wordExact_bits rfl) ((View.wordExact_bits rfl).reshape _ _)) fun _ => K

def yCast (k : Fin 32) (K : Pg F) : Pg F :=
  .op (.load aYst (Rect.unit (s := S2x256x1024) ![(par k).val, 0, 0] S1x256x1024.size (inbSt (par k))).toLoadRect (View.loadsAt_vmem h_S1x256x1024)) fun v =>
  .op (.load aSnd (Rect.unit (s := S16x256x1024) ![(slot k).val, 0, 0] S1x256x1024.size (inbSd (slot k))).toLoadRect (View.loadsAt_vmem h_S1x256x1024)) fun _ =>
  .op (.store aSnd (Rect.unit (s := S16x256x1024) ![(slot k).val, 0, 0] S1x256x1024.size (inbSd (slot k))) (castY v) Finset.univ (View.stores_vmem h_S1x256x1024 (wholeSnd.storeExact_slice rfl _ (packedSd (slot k))) (fun _ => rfl)) (.inl rfl)) fun _ => K
def lCast (k : Fin 32) (K : Pg F) : Pg F :=
  .op (.load aLst (Rect.unit (s := S2x512x1024) ![(par k).val, 0, 0] S1x512x1024.size (inbLs (par k))).toLoadRect (View.loadsAt_vmem h_S1x512x1024)) fun v =>
  .op (.load aLb (Rect.unit (s := S2x512x1024) ![(par k).val, 0, 0] S1x512x1024.size (inbLs (par k))).toLoadRect (View.loadsAt_vmem h_S1x512x1024)) fun _ =>
  .op (.store aLb (Rect.unit (s := S2x512x1024) ![(par k).val, 0, 0] S1x512x1024.size (inbLs (par k))) (castL v) Finset.univ (View.stores_vmem h_S1x512x1024 (wholeLb.storeExact_slice rfl _ (packedLs (par k))) (fun _ => rfl)) (.inl rfl)) fun _ => K

def sendY (d : Dev nD) (k : Fin 32) (K : Pg F) : Pg F :=
  .op (.enqueueDma (snd (slot k)) (.remote (Dev.tc (peerY d)) (yb k) (.dma (sYs k))) (.dma (sYr k)) ((wholeSnd.wordExact_slice rfl _ (wordsSd (slot k))).reshape _ _) ((wholeYb.wordExact_slice rfl _ (wordsRv k)).reshape _ _) ⟨⟨rfl, Or.inl rfl⟩, trivial⟩) fun _ => K
def sendX (d : Dev nD) (k : Fin 32) (K : Pg F) : Pg F :=
  .op (.enqueueDma (yb k) (.remote (Dev.tc (peerX d)) (xb k) (.dma (sXs k))) (.dma (sXr k)) ((wholeYb.wordExact_slice rfl _ (wordsRv k)).reshape _ _) ((wholeXb.wordExact_slice rfl _ (wordsRv k)).reshape _ _) ⟨⟨rfl, Or.inl rfl⟩, trivial⟩) fun _ => K
def recvY (k : Fin 32) (K : Pg F) : Pg F :=
  .op (.waitDma2 (sYr k) (snd (slot k)) (yb k) ((wholeSnd.wordExact_slice rfl _ (wordsSd (slot k))).reshape _ _) ((wholeYb.wordExact_slice rfl _ (wordsRv k)).reshape _ _)) fun _ => K
def recvX (k : Fin 32) (K : Pg F) : Pg F :=
  .op (.waitDma2 (sXr k) (yb k) (xb k) ((wholeYb.wordExact_slice rfl _ (wordsRv k)).reshape _ _) ((wholeXb.wordExact_slice rfl _ (wordsRv k)).reshape _ _)) fun _ => K
def sentY (k : Fin 32) (K : Pg F) : Pg F :=
  .op (.waitDma2 (sYs k) (yb k) (snd (slot k)) ((wholeYb.wordExact_slice rfl _ (wordsRv k)).reshape _ _) ((wholeSnd.wordExact_slice rfl _ (wordsSd (slot k))).reshape _ _)) fun _ => K
def sentX (k : Fin 32) (K : Pg F) : Pg F :=
  .op (.waitDma2 (sXs k) (xb k) (yb k) ((wholeXb.wordExact_slice rfl _ (wordsRv k)).reshape _ _) ((wholeYb.wordExact_slice rfl _ (wordsRv k)).reshape _ _)) fun _ => K

def lStore (d : Dev nD) (k : Fin 32) (K : Pg F) : Pg F :=
  .op (.enqueueDma (lb (par k)) (.here (oL d k)) (.dma (sLst (par k))) ((wholeLb.wordExact_slice rfl _ (wordsLs (par k))).reshape _ _) (wholeO.wordExact_slice rfl _ (k0_off4_wordsbf16 d k)) ⟨Or.inl rfl, trivial⟩) fun _ => K
def lStored (d : Dev nD) (k : Fin 32) (K : Pg F) : Pg F :=
  .op (.waitDma2 (sLst (par k)) (lb (par k)) (oL d k) ((wholeLb.wordExact_slice rfl _ (wordsLs (par k))).reshape _ _) (wholeO.wordExact_slice rfl _ (k0_off4_wordsbf16 d k))) fun _ => K
def yStore (d : Dev nD) (k : Fin 32) (K : Pg F) : Pg F :=
  .op (.enqueueDma (yb k) (.here (oY d k)) (.dma (sYo k)) ((wholeYb.wordExact_slice rfl _ (wordsRv k)).reshape _ _) (wholeO.wordExact_slice rfl _ (k0_off6_wordsbf16 d k)) ⟨Or.inl rfl, trivial⟩) fun _ => K
def yStored (d : Dev nD) (k : Fin 32) (K : Pg F) : Pg F :=
  .op (.waitDma2 (sYo k) (yb k) (oY d k) ((wholeYb.wordExact_slice rfl _ (wordsRv k)).reshape _ _) (wholeO.wordExact_slice rfl _ (k0_off6_wordsbf16 d k))) fun _ => K
def xStore (d : Dev nD) (k : Fin 32) (K : Pg F) : Pg F :=
  .op (.enqueueDma (xb k) (.here (oX d k)) (.dma (sXo k)) ((wholeXb.wordExact_slice rfl _ (wordsRv k)).reshape _ _) (wholeO.wordExact_slice rfl _ (k0_off36_wordsbf16 d k)) ⟨Or.inl rfl, trivial⟩) fun _ => K
def xStored (d : Dev nD) (k : Fin 32) (K : Pg F) : Pg F :=
  .op (.waitDma2 (sXo k) (xb k) (oX d k) ((wholeXb.wordExact_slice rfl _ (wordsRv k)).reshape _ _) (wholeO.wordExact_slice rfl _ (k0_off36_wordsbf16 d k))) fun _ => K

def sigY (d : Dev nD) (K : Pg F) : Pg F := (semSignalWord (peerY d) sBar 1#32).bind fun _ => K
def sigX (d : Dev nD) (K : Pg F) : Pg F := (semSignalWord (peerX d) sBar 1#32).bind fun _ => K
def barWait (K : Pg F) : Pg F := (semWaitWord sBar 2#32).bind fun _ => K

/-! ## The loops -/

/-- An operation at the next chunk, when there is one. -/
def onNext (k : Fin 32) (f : Fin 32 → Pg F → Pg F) (K : Pg F) : Pg F :=
  if h : k.val + 1 < 32 then f ⟨k.val + 1, h⟩ K else K

/-- An operation at the chunk `b` back, when there is one. -/
def onBack (b : ℕ) (k : Fin 32) (f : Fin 32 → Pg F → Pg F) (K : Pg F) : Pg F :=
  if b ≤ k.val then f ⟨k.val - b, Nat.lt_of_le_of_lt (Nat.sub_le _ _) k.isLt⟩ K else K

/-- The operation at the last `n` chunks, in order. -/
def iter (f : Fin 32 → Pg F → Pg F) (K : Pg F) : (n : ℕ) → n ≤ 32 → Pg F
  | 0, _ => K
  | n + 1, h => f ⟨32 - (n + 1), Nat.sub_lt (by decide) (Nat.succ_pos n)⟩ (iter f K n (Nat.le_of_succ_le h))

/-- A received chunk is forwarded and stored. -/
def drain (d : Dev nD) (k : Fin 32) (K : Pg F) : Pg F := recvY k <| sendX d k <| yStore d k K

/-- One turn of the main loop. -/
def chunk (d : Dev nD) (k : Fin 32) (K : Pg F) : Pg F :=
  onNext k (yStart d) <| yWait d k <| onBack 16 k sentY <| yCast k <| sendY d k <|
  onNext k (lStart d) <| lWait d k <| onBack 2 k (lStored d) <| lCast k <| lStore d k <|
  onBack 1 k (drain d) K

/-- One turn of the loop that stores the forwarded chunks. -/
def collect (d : Dev nD) (k : Fin 32) (K : Pg F) : Pg F := recvX k <| xStore d k K

/-- One turn of the loop that waits for a chunk's last copies. -/
def settle (d : Dev nD) (k : Fin 32) (K : Pg F) : Pg F := sentX k <| yStored d k <| xStored d k K

/-- The body after the device has read its own number. -/
def rest (d : Dev nD) : Pg F :=
  sigY d <| sigX d <| barWait <| yStart d 0 <| lStart d 0 <|
  iter (chunk d) (drain d 31 <|
    iter (collect d) (iter sentY (iter (settle d) (lStored d 30 <| lStored d 31 <| .ret ⟨⟩) 32 (by decide)) 16 (by decide))
      32 (by decide)) 32 (by decide)

/-- The body. -/
def prog : Pg F := .op .deviceId fun d => rest d

set_option maxRecDepth 100000 in
theorem bodyAt_eq (t : Fin cfg0.N) : (bodyAt0 t : Pg F) = prog := by
  unfold bodyAt0
  exact rfl

end Cert.KernelIdeal.Kx
-- ==== Proof.Common.lean ====
/- The protocol the four devices follow: the cells (semaphores) of a device, the values that travel,
   what each instalment on each cell hands over, what a device owes the others, and in what order
   cells may be waited on. -/
module

public import proofs.«01_k».proof.Proof.Prog
public import Idealize.ShloMosaic.Lib.Pipeline.Launch
public import Idealize.ShloMosaic.Lib.Pipeline.Kit
public import Idealize.ShloMosaic.Lib.Tactic
public import Idealize.ShloMosaic.Lib.MemrefSat
public import Idealize.ShloMosaic.Lib.Ring

@[expose] public section

noncomputable section

namespace Cert.KernelIdeal.Kx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Ghost state -/

abbrev UK : Type := URounds (GSem nD τ sig) Bool
abbrev UU : Type := UR sig nD τ × UK

local notation "𝕄" => MT nD τ sig Unit (Elt F) ℕ UU ℕ

abbrev EP : Emb (UR sig nD τ) (MT nD τ sig Unit (Elt F) ℕ UU ℕ) := embL
abbrev ER : Emb UK (MT nD τ sig Unit (Elt F) ℕ UU ℕ) := embR

/-! ## The devices' square -/

theorem peerY_peerY : ∀ d : Dev nD, peerY (peerY d) = d := by decide +kernel
theorem peerX_peerX : ∀ d : Dev nD, peerX (peerX d) = d := by decide +kernel

def eqvY : Dev nD ≃ Dev nD := ⟨peerY, peerY, peerY_peerY, peerY_peerY⟩
def eqvX : Dev nD ≃ Dev nD := ⟨peerX, peerX, peerX_peerX, peerX_peerX⟩

/-! ## Cells -/

/-- The semaphore arrays of two: the loads of the chunks, the loads of the blocks, the stores of the blocks. -/
def arr2 : Fin 3 → Fin 2 → DmaSem sig
  | 0, s => sYld s
  | 1, s => sLld s
  | 2, s => sLst s

/-- The semaphore arrays of thirty-two: the first copy at its sender and receiver, the second copy at its sender and
    receiver, the stores of the received and of the forwarded chunks. -/
def arr32 : Fin 6 → Fin 32 → DmaSem sig
  | 0, k => sYs k
  | 1, k => sYr k
  | 2, k => sXs k
  | 3, k => sXr k
  | 4, k => sYo k
  | 5, k => sXo k

/-- The semaphores of the kernel's own. -/
abbrev Own : Type := (Fin 3 × Fin 2) ⊕ (Fin 6 × Fin 32)

/-- All of a device's: the barrier's, and those. -/
abbrev Kd : Type := Option Own

def osem : Own → SemLoc sig
  | .inl (a, s) => .dma (arr2 a s)
  | .inr (b, k) => .dma (arr32 b k)

def csem : Kd → SemLoc sig
  | none => .reg sBar
  | some o => osem o

/-- Which of a device's semaphores a cell is. -/
def kdOf : SemLoc sig → Kd
  | .reg _ => none
  | .dma q =>
    if q.val < 4 then some (.inl (⟨q.val / 2 % 3, Nat.mod_lt _ (by decide)⟩, ⟨q.val % 2, Nat.mod_lt _ (by decide)⟩))
    else if 196 ≤ q.val then some (.inl (2, ⟨q.val % 2, Nat.mod_lt _ (by decide)⟩))
    else some (.inr (⟨(q.val - 4) / 32 % 6, Nat.mod_lt _ (by decide)⟩, ⟨(q.val - 4) % 32, Nat.mod_lt _ (by decide)⟩))

theorem kdOf_arr2 : ∀ a s, kdOf (.dma (arr2 a s)) = some (.inl (a, s)) := by decide +kernel
theorem kdOf_arr32 : ∀ b k, kdOf (.dma (arr32 b k)) = some (.inr (b, k)) := by decide +kernel

theorem kdOf_csem : ∀ κ : Kd, kdOf (csem κ) = κ
  | none => rfl
  | some (.inl (a, s)) => kdOf_arr2 a s
  | some (.inr (b, k)) => kdOf_arr32 b k

theorem csem_injective : Function.Injective csem := Function.LeftInverse.injective kdOf_csem

theorem csem_kdOf : ∀ sm : SemLoc sig, csem (kdOf sm) = sm := by
  have h1 : ∀ s : Fin 1, csem (kdOf (.reg s : SemLoc sig)) = .reg s := by decide
  have h2 : ∀ q : Fin 198, csem (kdOf (.dma q : SemLoc sig)) = .dma q := by decide +kernel
  rintro (s | q)
  · exact h1 s
  · exact h2 q

abbrev cell (d : Dev nD) (κ : Kd) : GSem nD τ sig := ((d : Thread nD τ), csem κ)

abbrev k2 (a : Fin 3) (s : Fin 2) : Kd := some (.inl (a, s))
abbrev k32 (b : Fin 6) (k : Fin 32) : Kd := some (.inr (b, k))

/-! ## Credits -/

abbrev nYF : ℕ := (yst 0).view.dmaCredit
abbrev nLF : ℕ := (lst 0).view.dmaCredit
abbrev nYB : ℕ := (yb 0).view.dmaCredit
abbrev nLB : ℕ := (lb 0).view.dmaCredit
abbrev nYO : ℕ := (oY 0 0).view.dmaCredit
abbrev nLO : ℕ := (oL 0 0).view.dmaCredit

theorem amt_yst (s : Fin 2) : (yst s).view.dmaCredit = nYF := rfl
theorem amt_lst (s : Fin 2) : (lst s).view.dmaCredit = nLF := rfl
theorem amt_yb (k : Fin 32) : (yb k).view.dmaCredit = nYB := rfl
theorem amt_xb (k : Fin 32) : (xb k).view.dmaCredit = nYB := rfl
theorem amt_snd (s : Fin 16) : (snd s).view.dmaCredit = nYB := rfl
theorem amt_oL (d : Dev nD) (k : Fin 32) : (oL d k).view.dmaCredit = nLO := rfl
theorem amt_oY (d : Dev nD) (k : Fin 32) : (oY d k).view.dmaCredit = nYO := rfl
theorem amt_oX (d : Dev nD) (k : Fin 32) : (oX d k).view.dmaCredit = nYO := rfl

theorem nYF_pos : 0 < nYF := View.dmaCredit_pos _ (by decide)
theorem nLF_pos : 0 < nLF := View.dmaCredit_pos _ (by decide)
theorem nYB_pos : 0 < nYB := View.dmaCredit_pos _ (by decide)
theorem nYO_pos : 0 < nYO := View.dmaCredit_pos _ (by decide)
theorem nLO_pos : 0 < nLO := View.dmaCredit_pos _ (by decide)

def amt : Kd → ℕ
  | none => 1
  | some (.inl (a, _)) => if a = 0 then nYF else if a = 1 then nLF else nLO
  | some (.inr (b, _)) => if b.val < 4 then nYB else nYO

theorem amt_pos (κ : Kd) : 0 < amt κ := by
  rcases κ with _ | ⟨a, s⟩ | ⟨b, k⟩
  · exact Nat.one_pos
  · show 0 < if a = 0 then nYF else if a = 1 then nLF else nLO
    split
    · exact nYF_pos
    · split
      · exact nLF_pos
      · exact nLO_pos
  · show 0 < if b.val < 4 then nYB else nYO
    split
    · exact nYB_pos
    · exact nYO_pos

/-! ## Values -/

variable (m : (ℓ : Loc nD τ sig) → Buf (Elt F) ℓ)

/-- A device's part of the operand. -/
abbrev opnd (d : Dev nD) : Buf (Elt F) ((d : Thread nD τ).loc main_arg0) := m ((d : Thread nD τ).loc main_arg0)

/-- The rows and columns of chunk `k` on device `d`, as loaded. -/
def ldY (d : Dev nD) (k : Fin 32) : S256x1024.Idx → Elt F .f32 := (xY d k).view.read (Elt F) (opnd m d)
/-- The rows and columns of block `j` on device `d`, as loaded. -/
def ldL (d : Dev nD) (j : Fin 32) : S512x1024.Idx → Elt F .f32 := (xL d j).view.read (Elt F) (opnd m d)
/-- The same chunk narrowed. -/
def chY (d : Dev nD) (k : Fin 32) : S256x1024.Idx → Elt F .bf16 := truncf .bf16 (ldY m d k : FVec F S256x1024 .f32) bitsLt_bf16_f32
/-- The same block narrowed. -/
def chL (d : Dev nD) (j : Fin 32) : S512x1024.Idx → Elt F .bf16 := truncf .bf16 (ldL m d j : FVec F S512x1024 .f32) bitsLt_bf16_f32
/-- What arrives on device `d` as chunk `k`: the partner's. -/
abbrev inY (d : Dev nD) (k : Fin 32) : S256x1024.Idx → Elt F .bf16 := chY m (peerY d) k
/-- What is forwarded to device `d` as chunk `k`: what arrived on the forwarder. -/
abbrev inX (d : Dev nD) (k : Fin 32) : S256x1024.Idx → Elt F .bf16 := inY m (peerX d) k

/-! ## Schedule -/

/-- Owning a view at some contents. -/
abbrev some' (d : Dev nD) {sp : Space} {s : Shape} {e : EltTy} (v : Memref sig .tc sp s e) : sProp 𝕄 :=
  iprop(∃ X : s.Idx → Elt F e, owns (d : Thread nD τ) v fullShare X)

/-- Owning a view wholly. -/
abbrev own' (d : Dev nD) {sp : Space} {s : Shape} {e : EltTy} (v : Memref sig .tc sp s e) (X : s.Idx → Elt F e) : sProp 𝕄 :=
  owns (d : Thread nD τ) v fullShare X

/-- The chunk a slot holds in round `r`. -/
def chOf (r : ℕ) (s : Fin 2) : Fin 32 := ⟨(2 * r + s.val) % 32, Nat.mod_lt _ (by decide)⟩

theorem chOf_par (k : Fin 32) : chOf (k.val / 2) (par k) = k := by
  apply Fin.ext
  show (2 * (k.val / 2) + k.val % 2) % 32 = k.val
  have := k.isLt
  omega

def dts : Kd → ℕ → Finset Bool
  | none, r => if r = 0 then Finset.univ else ∅
  | some (.inl _), r => if r < 16 then {false} else ∅
  | some (.inr _), r => if r = 0 then {false} else ∅

def pay2 (d : Dev nD) (s : Fin 2) (r : ℕ) : Fin 3 → sProp 𝕄
  | 0 => own' d (yst s) (ldY m d (chOf r s))
  | 1 => own' d (lst s) (ldL m d (chOf r s))
  | 2 => iprop(own' d (oL d (chOf r s)) (chL m d (chOf r s)) ∗ own' d (lb s) (chL m d (chOf r s)))

def pay32 (d : Dev nD) (k : Fin 32) : Fin 6 → sProp 𝕄
  | 0 => own' d (snd (slot k)) (chY m d k)
  | 1 => own' d (yb k) (inY m d k)
  | 2 => owns (d : Thread nD τ) (yb k) fullShare.right (inY m d k)
  | 3 => own' d (xb k) (inX m d k)
  | 4 => iprop(own' d (oY d k) (inY m d k) ∗ owns (d : Thread nD τ) (yb k) fullShare.left (inY m d k))
  | 5 => iprop(own' d (oX d k) (inX m d k) ∗ own' d (xb k) (inX m d k))

/-- What the two partners' signals hand over: the slots their chunks will land in. -/
def payB (d : Dev nD) : Bool → sProp 𝕄
  | false => bigSep Finset.univ fun k : Fin 32 => some' (F := F) (peerY d) (yb k)
  | true => bigSep Finset.univ fun k : Fin 32 => some' (F := F) (peerX d) (xb k)

def pay (d : Dev nD) : Kd → ℕ → Bool → sProp 𝕄
  | none, _, b => payB d b
  | some (.inl (a, s)), r, _ => pay2 m d s r a
  | some (.inr (b, k)), _, _ => pay32 m d k b

def Rd : Rounds.Schedule (GSem nD τ sig) Bool 𝕄 where
  duties g r := if g.1.2 = .tc then dts (kdOf g.2) r else ∅
  unitless _ := False
  amount g _ _ := amt (kdOf g.2)
  payload g r b := pay m g.1.1 (kdOf g.2) r b
  amount_pos g _ _ _ := amt_pos _

instance pay_storable (d : Dev nD) (κ : Kd) (r : ℕ) (b : Bool) : BI.Storable (upEmb : UEmb _ 𝕄) (pay m d κ r b) := by
  rcases κ with _ | ⟨a, s⟩ | ⟨c, k⟩
  · cases b <;> (unfold pay payB; infer_instance)
  · fin_cases a <;> (unfold pay pay2; infer_instance)
  · fin_cases c <;> (unfold pay pay32; infer_instance)

instance Rd_payload_storable (g : GSem nD τ sig) (r : ℕ) (b : Bool) :
    BI.Storable (upEmb : UEmb _ 𝕄) ((Rd (F := F) m).payload g r b) := pay_storable m g.1.1 (kdOf g.2) r b

section Sched
variable (d : Dev nD)

omit [FloatOps F] in
theorem tcd : ((d : Thread nD τ).2 = .tc) := rfl

theorem duties_cell (κ : Kd) (r : ℕ) : (Rd (F := F) m).duties (cell d κ) r = dts κ r := by
  show (if (cell d κ).1.2 = .tc then dts (kdOf (csem κ)) r else ∅) = _
  rw [if_pos rfl, kdOf_csem]

theorem amount_cell (κ : Kd) (r : ℕ) (b : Bool) : (Rd (F := F) m).amount (cell d κ) r b = amt κ := by
  show amt (kdOf (csem κ)) = _
  rw [kdOf_csem]

theorem payload_cell (κ : Kd) (r : ℕ) (b : Bool) : (Rd (F := F) m).payload (cell d κ) r b = pay m d κ r b := by
  show pay m d (kdOf (csem κ)) r b = _
  rw [kdOf_csem]

theorem mem_k2 (a : Fin 3) (s : Fin 2) (r : ℕ) (hr : r < 16) : false ∈ (Rd (F := F) m).duties (cell d (k2 a s)) r := by
  rw [duties_cell]; show false ∈ if r < 16 then {false} else ∅
  rw [if_pos hr]; exact Finset.mem_singleton_self _

theorem mem_k32 (b : Fin 6) (k : Fin 32) : false ∈ (Rd (F := F) m).duties (cell d (k32 b k)) 0 := by
  rw [duties_cell]; exact Finset.mem_singleton_self _

theorem expect_k2 (a : Fin 3) (s : Fin 2) (r : ℕ) (hr : r < 16) : (Rd (F := F) m).expect (cell d (k2 a s)) r = amt (k2 a s) := by
  unfold Schedule.expect Schedule.amountOf
  rw [duties_cell, show dts (k2 a s) r = {false} from if_pos hr, Finset.sum_singleton, amount_cell]

theorem expect_k32 (b : Fin 6) (k : Fin 32) : (Rd (F := F) m).expect (cell d (k32 b k)) 0 = amt (k32 b k) := by
  unfold Schedule.expect Schedule.amountOf
  rw [duties_cell, show dts (k32 b k) 0 = {false} from rfl, Finset.sum_singleton, amount_cell]

theorem expect_bar : (Rd (F := F) m).expect (cell d none) 0 = 2 := by
  unfold Schedule.expect Schedule.amountOf
  rw [duties_cell, show dts none 0 = Finset.univ from rfl, Finset.sum_congr rfl fun b _ => amount_cell m d none 0 b,
    Finset.sum_const, Finset.card_univ, Fintype.card_bool, smul_eq_mul]
  rfl

theorem rest_k2 (a : Fin 3) (s : Fin 2) (r : ℕ) (hr : r < 16) :
    bigSep ((Rd (F := F) m).duties (cell d (k2 a s)) r \ ∅) (fun b => (Rd (F := F) m).payload (cell d (k2 a s)) r b) = pay2 m d s r a := by
  rw [Finset.sdiff_empty, duties_cell, show dts (k2 a s) r = {false} from if_pos hr, bigSep_singleton, payload_cell]
  rfl

theorem rest_k32 (b : Fin 6) (k : Fin 32) :
    bigSep ((Rd (F := F) m).duties (cell d (k32 b k)) 0 \ ∅) (fun b' => (Rd (F := F) m).payload (cell d (k32 b k)) 0 b') = pay32 m d k b := by
  rw [Finset.sdiff_empty, duties_cell, show dts (k32 b k) 0 = {false} from rfl, bigSep_singleton, payload_cell]
  rfl

theorem rest_bar :
    bigSep ((Rd (F := F) m).duties (cell d none) 0 \ ∅) (fun b => (Rd (F := F) m).payload (cell d none) 0 b) = iprop(payB d false ∗ payB d true) := by
  rw [Finset.sdiff_empty, duties_cell, show dts none 0 = Finset.univ from rfl,
    bigSep_univ_eq_bigSepL [false, true] (by decide) (by decide), bigSepL_cons_cons, bigSepL_singleton, payload_cell, payload_cell]
  rfl

theorem no_more (κ : Kd) : ∀ r, 16 ≤ r → (Rd (F := F) m).duties (cell d κ) r = ∅ := by
  intro r hr
  rw [duties_cell]
  rcases κ with _ | ⟨a, s⟩ | ⟨b, k⟩
  · exact if_neg (by omega)
  · exact if_neg (by omega)
  · exact if_neg (by omega)

theorem no_more' (κ : Kd) (h : ∀ a s, κ ≠ k2 a s) : ∀ r, 1 ≤ r → (Rd (F := F) m).duties (cell d κ) r = ∅ := by
  intro r hr
  rw [duties_cell]
  rcases κ with _ | ⟨a, s⟩ | ⟨b, k⟩
  · exact if_neg (by omega)
  · exact absurd rfl (h a s)
  · exact if_neg (by omega)

end Sched

/-! ## What a device owes; levels -/

abbrev yrCell (d : Dev nD) (k : Fin 32) : GSem nD τ sig := cell d (k32 1 k)
abbrev xrCell (d : Dev nD) (k : Fin 32) : GSem nD τ sig := cell d (k32 3 k)

/-- The chunks from `a` on. -/
abbrev from' (a : ℕ) : Finset (Fin 32) := Finset.univ.filter (fun k : Fin 32 => a ≤ k.val)

/-- The transfers still owed: the first copies from chunk `a` on, the second from chunk `b` on. -/
def Orem (d : Dev nD) (a b : ℕ) : CellTallies nD τ sig Unit :=
  (∑ k ∈ from' a, tallyAt (yrCell (peerY d) k) () nYB) + ∑ k ∈ from' b, tallyAt (xrCell (peerX d) k) () nYB

/-- And the signal to the second partner; -/
def O₁ (d : Dev nD) : CellTallies nD τ sig Unit := Orem d 0 0 + tallyAt (cell (peerX d) none) () 1
/-- and that to the first. -/
def O₀ (d : Dev nD) : CellTallies nD τ sig Unit := O₁ d + tallyAt (cell (peerY d) none) () 1

def L (g : GSem nD τ sig) : Finset Unit := if g.1.2 = .tc then {()} else ∅

def lvK : Kd → ℕ
  | none => 1
  | some (.inl _) => 0
  | some (.inr (b, k)) => if b = 1 then 2 + 2 * k.val else if b = 3 then 3 + 2 * k.val else 0

def lv (g : GSem nD τ sig) (_ : Unit) : ℕ := lvK (kdOf g.2)

theorem L_of_ne (g : GSem nD τ sig) (h : g.1.2 ≠ .tc) : L g = ∅ := if_neg h
theorem L_cell (d : Dev nD) (κ : Kd) : L (cell d κ) = {()} := if_pos rfl
theorem lv_cell (d : Dev nD) (κ : Kd) (u : Unit) : lv (cell d κ) u = lvK κ := by unfold lv; rw [kdOf_csem]

theorem sum_pos_mem {s : Finset (Fin 32)} {c : Fin 32 → GSem nD τ sig} {n : ℕ} {g : GSem nD τ sig} {u : Unit}
    (h : 0 < (∑ k ∈ s, tallyAt (c k) () n : CellTallies nD τ sig Unit) g u) : ∃ k ∈ s, g = c k := by
  by_contra hn
  rw [Finset.sum_apply, Finsupp.finset_sum_apply] at h
  rw [Finset.sum_eq_zero] at h
  · exact Nat.lt_irrefl 0 h
  · intro k hk
    rw [tallyAt_apply, if_neg]
    exact fun h' => hn ⟨k, hk, h'.1⟩

theorem Orem_pos {d : Dev nD} {a b : ℕ} {g : GSem nD τ sig} {u : Unit} (h : 0 < Orem d a b g u) :
    (∃ k : Fin 32, a ≤ k.val ∧ g = yrCell (peerY d) k) ∨ ∃ k : Fin 32, b ≤ k.val ∧ g = xrCell (peerX d) k := by
  unfold Orem at h
  rw [Pi.add_apply, Finsupp.add_apply] at h
  rcases Nat.add_pos_iff_pos_or_pos.mp h with h | h
  · obtain ⟨k, hk, rfl⟩ := sum_pos_mem h
    exact .inl ⟨k, (Finset.mem_filter.mp hk).2, rfl⟩
  · obtain ⟨k, hk, rfl⟩ := sum_pos_mem h
    exact .inr ⟨k, (Finset.mem_filter.mp hk).2, rfl⟩

/-- A cell may be waited on while transfers at higher levels are owed. -/
theorem mayWait_cut (d : Dev nD) (κ : Kd) (a b : ℕ) (ha : ∀ k : ℕ, a ≤ k → lvK κ < 2 + 2 * k) (hb : ∀ k : ℕ, b ≤ k → lvK κ < 3 + 2 * k) :
    (levAts L lv : sProp 𝕄) ⊢ MayWait (d : Thread nD τ) (csem κ) () (Orem d a b) :=
  MayOwe.of_cut (L := L) (lev := lv) (lvK κ)
    (fun p hp => by rw [Finset.mem_singleton.mp hp]; exact Finset.mem_singleton_self _)
    (fun g u hg => by
      rcases Orem_pos hg with ⟨k, _, rfl⟩ | ⟨k, _, rfl⟩ <;> exact Finset.mem_singleton_self _)
    (fun p hp => by rw [Finset.mem_singleton.mp hp]; exact le_of_eq (lv_cell d κ ()))
    (fun g u hg => by
      rcases Orem_pos hg with ⟨k, hk, rfl⟩ | ⟨k, hk, rfl⟩
      · rw [lv_cell]; exact ha k.val hk
      · rw [lv_cell]; exact hb k.val hk)

/-- A local cell may always be waited on; -/
theorem mayWait_local (d : Dev nD) (κ : Kd) (h : lvK κ ≤ 1) (a b : ℕ) :
    (levAts L lv : sProp 𝕄) ⊢ MayWait (d : Thread nD τ) (csem κ) () (Orem d a b) :=
  mayWait_cut d κ a b (fun _ _ => by omega) (fun _ _ => by omega)

/-- a first copy's arrival when only later first copies, and second copies from that chunk on, are owed. -/
theorem mayWait_yr (d : Dev nD) (k : Fin 32) (a b : ℕ) (ha : k.val < a) (hb : k.val ≤ b) :
    (levAts L lv : sProp 𝕄) ⊢ MayWait (d : Thread nD τ) (csem (k32 1 k)) () (Orem d a b) :=
  mayWait_cut d (k32 1 k) a b (fun j hj => by show 2 + 2 * k.val < _; omega) (fun j hj => by show 2 + 2 * k.val < _; omega)

theorem from_step {a : ℕ} (k : Fin 32) (hk : k.val = a) : from' a = insert k (from' (a + 1)) := by
  ext j
  simp only [Finset.mem_filter, Finset.mem_univ, true_and, Finset.mem_insert, Fin.ext_iff]
  omega

theorem from_notMem {a : ℕ} (k : Fin 32) (hk : k.val = a) : k ∉ from' (a + 1) := by
  simp only [Finset.mem_filter, Finset.mem_univ, true_and]; omega

theorem from_end {a : ℕ} (h : 32 ≤ a) : from' a = ∅ := by
  ext j; simp only [Finset.mem_filter, Finset.mem_univ, true_and, Finset.notMem_empty, iff_false]; have := j.isLt; omega

/-- One first copy paid; -/
theorem Orem_payY (d : Dev nD) (k : Fin 32) (b : ℕ) :
    Orem d k.val b = Orem d (k.val + 1) b + tallyAt (yrCell (peerY d) k) () nYB := by
  unfold Orem
  rw [from_step k rfl, Finset.sum_insert (from_notMem k rfl)]
  rw [add_assoc, add_comm]

/-- one second copy paid; -/
theorem Orem_payX (d : Dev nD) (a : ℕ) (k : Fin 32) :
    Orem d a k.val = Orem d a (k.val + 1) + tallyAt (xrCell (peerX d) k) () nYB := by
  unfold Orem
  rw [from_step (a := k.val) k rfl, Finset.sum_insert (from_notMem k rfl)]
  rw [add_assoc]
  exact congrArg _ (add_comm _ _)

/-- all paid. -/
theorem Orem_end (d : Dev nD) (a b : ℕ) (ha : 32 ≤ a) (hb : 32 ≤ b) : Orem d a b = 0 := by
  unfold Orem; rw [from_end ha, from_end hb, Finset.sum_empty, Finset.sum_empty, add_zero]

end Cert.KernelIdeal.Kx
-- ==== Proof.Ops.lean ====
/- One rule for each operation of the body: what it takes, and what it leaves to the rest. -/
module

public import proofs.«01_k».proof.Proof.Common
public import Idealize.ShloMosaic.Lib.Pipeline.Value
public import Idealize.SL.BI.BigOpNat

@[expose] public section

noncomputable section

namespace Cert.KernelIdeal.Kx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (Kn : Dev nD × Kd → ℕ)

/-! ## What every device knows throughout -/

/-- Every cell follows the schedule; every cell has reached its round 0; the levels. -/
def ctx : sProp 𝕄 :=
  iprop(bigSep Finset.univ (fun p : Dev nD × Kd => cellInv ER (Rd m) (Kn p) (cell p.1 p.2))
    ∗ bigSep Finset.univ (fun p : Dev nD × Kd => reached (ER (F := F)) (cell p.1 p.2) 0)
    ∗ levAts L lv)

instance ctx_persistent : Persistent (ctx m Kn) := by unfold ctx; infer_instance

theorem ctx_inv (d : Dev nD) (κ : Kd) : ctx m Kn ⊢ cellInv ER (Rd m) (Kn (d, κ)) (cell d κ) := by
  unfold ctx
  exact sep_elim_left.trans (bigSep_elim (Φ := fun p : Dev nD × Kd => cellInv ER (Rd m) (Kn p) (cell p.1 p.2)) (Finset.mem_univ (d, κ)))

theorem ctx_reached (d : Dev nD) (κ : Kd) : ctx m Kn ⊢ reached (ER (F := F)) (cell d κ) 0 := by
  unfold ctx
  exact sep_elim_right.trans (sep_elim_left.trans
    (bigSep_elim (Φ := fun p : Dev nD × Kd => reached (ER (F := F)) (cell p.1 p.2) 0) (Finset.mem_univ (d, κ))))

theorem ctx_lev : ctx m Kn ⊢ levAts L lv := by
  unfold ctx
  iintro ⟨-, -, H⟩
  iexact H

abbrev 𝒱₀ : Variants := Variants.none

/-- What a device owes, whatever it has waited on. -/
def ow (d : Dev nD) (O : CellTallies nD τ sig Unit) : sProp 𝕄 := iprop(∃ W, owes (d : Thread nD τ) O W)

/-! ## Steps -/

/-- Running a program on device `d` to a conclusion. -/
abbrev WP (d : Dev nD) (P : Pg F) (Q : PUnit → sProp 𝕄) : sProp 𝕄 :=
  wp frame (wpE (defs₀ (F := F)) 𝒱₀ (d : Thread nD τ) none) Set.univ P Q

/-- A piece of program takes `A` and leaves `B` to what follows. -/
def Step (d : Dev nD) (A B : sProp 𝕄) (f : Pg F → Pg F) : Prop :=
  ∀ (K : Pg F) (Q : PUnit → sProp 𝕄), iprop(ctx m Kn ∗ A) ⊢ iprop((B -∗ WP d K Q) -∗ WP d (f K) Q)

variable {m Kn}
variable {d : Dev nD}

theorem Step.seq {A B C : sProp 𝕄} {f g : Pg F → Pg F} (h : Step m Kn d A B f) (h' : Step m Kn d B C g) :
    Step m Kn d A C (fun K => f (g K)) := by
  intro K Q
  iintro ⟨#Hc, HA⟩ Hk
  iapply (h (g K) Q) $$ [HA]
  · isplitr; · iexact Hc
    iexact HA
  iintro HB
  iapply (h' K Q) $$ [HB]
  · isplitr; · iexact Hc
    iexact HB
  iexact Hk

theorem Step.frame {A B : sProp 𝕄} {f : Pg F → Pg F} (h : Step m Kn d A B f) (R : sProp 𝕄) :
    Step m Kn d iprop(A ∗ R) iprop(B ∗ R) f := by
  intro K Q
  iintro ⟨#Hc, HA, HR⟩ Hk
  iapply (h K Q) $$ [HA]
  · isplitr; · iexact Hc
    iexact HA
  iintro HB
  iapply Hk
  isplitl [HB] <;> iassumption

theorem Step.conseq {A A' B B' : sProp 𝕄} {f : Pg F → Pg F} (h : Step m Kn d A B f)
    (h1 : iprop(ctx m Kn ∗ A') ⊢ A) (h2 : B ⊢ B') : Step m Kn d A' B' f := by
  intro K Q
  iintro ⟨#Hc, HA⟩ Hk
  iapply (h K Q) $$ [HA]
  · isplitr; · iexact Hc
    iapply h1
    isplitr; · iexact Hc
    iexact HA
  iintro HB
  iapply Hk
  iapply h2 $$ HB

theorem Step.pre {A A' B : sProp 𝕄} {f : Pg F → Pg F} (h : Step m Kn d A B f) (h1 : A' ⊢ A) : Step m Kn d A' B f :=
  h.conseq ((sep_mono_right h1).trans (by iintro ⟨-, H⟩; iexact H)) .rfl

theorem Step.post {A B B' : sProp 𝕄} {f : Pg F → Pg F} (h : Step m Kn d A B f) (h2 : B ⊢ B') : Step m Kn d A B' f :=
  h.conseq (by iintro ⟨-, H⟩; iexact H) h2

theorem Step.onNext {A B : sProp 𝕄} (k : Fin 32) (f : Fin 32 → Pg F → Pg F)
    (h : ∀ hk : k.val + 1 < 32, Step m Kn d A B (f ⟨k.val + 1, hk⟩)) (h' : 32 ≤ k.val + 1 → (A ⊢ B)) :
    Step m Kn d A B (onNext k f) := by
  intro K Q
  unfold Kx.onNext
  split
  · next hk => exact h hk K Q
  · next hk =>
    iintro ⟨-, HA⟩ Hk
    iapply Hk
    iapply (h' (by omega)) $$ HA

theorem Step.onBack {A B : sProp 𝕄} (b : ℕ) (k : Fin 32) (f : Fin 32 → Pg F → Pg F)
    (h : b ≤ k.val → Step m Kn d A B (f ⟨k.val - b, Nat.lt_of_le_of_lt (Nat.sub_le _ _) k.isLt⟩)) (h' : k.val < b → (A ⊢ B)) :
    Step m Kn d A B (onBack b k f) := by
  intro K Q
  unfold Kx.onBack
  split
  · next hk => exact h hk K Q
  · next hk =>
    iintro ⟨-, HA⟩ Hk
    iapply Hk
    iapply (h' (by omega)) $$ HA

/-- A loop keeps an invariant that counts its turns. -/
theorem Step.iter (I : ℕ → sProp 𝕄) (f : Fin 32 → Pg F → Pg F)
    (h : ∀ k : Fin 32, Step m Kn d (I k.val) (I (k.val + 1)) (f k)) :
    ∀ (n : ℕ) (hn : n ≤ 32), Step m Kn d (I (32 - n)) (I 32) (fun K => Kx.iter f K n hn)
  | 0, _ => by
    intro K Q
    iintro ⟨-, HA⟩ Hk
    iapply Hk; iexact HA
  | n + 1, hn => by
    have h1 := h ⟨32 - (n + 1), Nat.sub_lt (by decide) (Nat.succ_pos n)⟩
    have h2 := Step.iter I f h n (Nat.le_of_succ_le hn)
    rw [show 32 - n = 32 - (n + 1) + 1 by omega] at h2
    exact h1.seq h2

/-- The same when only the later turns run. -/
theorem Step.iter_from (a : ℕ) (I : ℕ → sProp 𝕄) (f : Fin 32 → Pg F → Pg F)
    (h : ∀ k : Fin 32, a ≤ k.val → Step m Kn d (I k.val) (I (k.val + 1)) (f k)) :
    ∀ (n : ℕ) (hn : n ≤ 32), a ≤ 32 - n → Step m Kn d (I (32 - n)) (I 32) (fun K => Kx.iter f K n hn)
  | 0, _, _ => by
    intro K Q
    iintro ⟨-, HA⟩ Hk
    iapply Hk; iexact HA
  | n + 1, hn, ha => by
    have h1 := h ⟨32 - (n + 1), Nat.sub_lt (by decide) (Nat.succ_pos n)⟩ ha
    have h2 := Step.iter_from a I f h n (Nat.le_of_succ_le hn) (by omega)
    rw [show 32 - n = 32 - (n + 1) + 1 by omega] at h2
    exact h1.seq h2

/-! ## Runs of resources -/

/-- The chunk of a number. -/
abbrev ch (n : ℕ) : Fin 32 := ⟨n % 32, Nat.mod_lt _ (by decide)⟩

theorem ch_val (k : Fin 32) : ch k.val = k := Fin.ext (Nat.mod_eq_of_lt k.isLt)

/-- The resources of the chunks from `a` to before `b`. -/
def Rg (a b : ℕ) (Φ : Fin 32 → sProp 𝕄) : sProp 𝕄 := bigSep (Finset.Ico a b) fun n => Φ (ch n)

theorem Rg_take (k : Fin 32) (b : ℕ) (h : k.val < b) (Φ : Fin 32 → sProp 𝕄) :
    Rg k.val b Φ = iprop(Φ k ∗ Rg (k.val + 1) b Φ) := by
  unfold Rg
  rw [bigSep_Ico_succ_bot h, ch_val]

theorem Rg_put (a : ℕ) (k : Fin 32) (h : a ≤ k.val) (Φ : Fin 32 → sProp 𝕄) :
    Rg a (k.val + 1) Φ = iprop(Φ k ∗ Rg a k.val Φ) := by
  unfold Rg
  rw [bigSep_Ico_succ_top h, ch_val]

theorem Rg_nil (a b : ℕ) (h : b ≤ a) (Φ : Fin 32 → sProp 𝕄) : Rg a b Φ = iprop(emp) := by
  unfold Rg
  rw [Finset.Ico_eq_empty_of_le h, bigSep_empty]
  rfl

theorem Rg_sep (a b : ℕ) (Φ Ψ : Fin 32 → sProp 𝕄) : Rg a b (fun k => iprop(Φ k ∗ Ψ k)) = iprop(Rg a b Φ ∗ Rg a b Ψ) := by
  unfold Rg
  exact bigSep_sep _ _ _

theorem Rg_all (Φ : Fin 32 → sProp 𝕄) : Rg 0 32 Φ = bigSep Finset.univ Φ := by
  have h : ∀ (n : ℕ) (g : ℕ → sProp 𝕄), bigSep (Finset.Ico 0 n) g = bigSep Finset.univ (fun i : Fin n => g i.val) := by
    intro n g
    rw [show Finset.Ico 0 n = (Finset.univ : Finset (Fin n)).map Fin.valEmbedding by
      ext x; simp only [Finset.mem_Ico, Finset.mem_map, Finset.mem_univ, true_and, Fin.valEmbedding_apply]
      exact ⟨fun h => ⟨⟨x, h.2⟩, rfl⟩, fun ⟨y, hy⟩ => hy ▸ ⟨Nat.zero_le _, y.isLt⟩⟩]
    exact bigSep_map _
  unfold Rg
  rw [h 32]
  exact bigSep_congr fun k _ => by rw [ch_val]

/-! ## Copies and waits -/

/-- What holds of a view holds of it weaker. -/
theorem own_some {sp : Space} {s : Shape} {e : EltTy} {v : Memref sig .tc sp s e} {X : s.Idx → Elt F e} :
    own' d v X ⊢ some' d v := by iintro H; iexists X; iexact H

/-- A copy within the device. -/
theorem do_copy (κ : Kd) {sp sp' : Space} {s : Shape} {e : EltTy} (src : Memref sig .tc sp s e) (dst : Memref sig .tc sp' s e)
    (q : PosShare TreeShare) (X : s.Idx → Elt F e) (r : ℕ) (hmem : false ∈ (Rd m).duties (cell d κ) r)
    (hN : dst.view.amount (csem κ) = amt κ)
    {hsrc : src.view.WordExact} {hdst : dst.view.WordExact} {hsem : DmaTarget.Typed (nD := nD) sp (csem κ) (.here dst : DmaTarget nD τ sig .tc sp' s e)}
    (hpay : iprop(own' d dst X ∗ owns (d : Thread nD τ) src q X) ⊢ pay m d κ r false) :
    Step m Kn d iprop(owns (d : Thread nD τ) src q X ∗ some' d dst ∗ dutyTok ER (cell d κ) r false ∗ reached ER (cell d κ) r)
      (cred (tallyAt (cell d κ) () (amt κ)))
      (fun K => .op (.enqueueDma src (.here dst) (csem κ) hsrc hdst hsem) fun _ => K) := by
  intro K Q
  unfold some' owns
  iintro ⟨#Hc, ⟨%fs, %hfs, Hs⟩, ⟨%Y, %fd, %hfd, Hd⟩, Ht, Hr⟩ Hk
  ihave Hi := (ctx_inv m Kn d κ) $$ Hc
  iapply (Rounds.wp_copy_pointsTo 𝒱₀ ER (Rd m) (d : Thread nD τ) none (fs := fs) (fd := fd) (d := false) (r := r) hmem () (amt κ) hN (amount_cell m d κ r false)
    (by
      rw [payload_cell]
      refine BIBase.Entails.trans ?_ hpay
      unfold own' owns
      iintro ⟨H1, H2⟩
      isplitl [H1]
      · iexists (dst.view.write (Elt F) fd (src.view.read (Elt F) fs) Finset.univ); isplitr
        · ipureintro; exact (View.read_write_univ _ _).trans hfs
        · iexact H1
      · iexists fs; isplitr
        · ipureintro; exact hfs
        · iexact H2)) $$ [Hi Hs Hd Ht Hr]
  · isplitl [Hi]; · iexact Hi
    isplitl [Hs]; · iexact Hs
    isplitl [Hd]; · iexact Hd
    isplitl [Ht] <;> iassumption
  iexact Hk

/-- A wait for the round a cell is in. -/
theorem do_wait (κ : Kd) (q : DmaSem sig) (hq : csem κ = .dma q) {sp sp' : Space} {s s' : Shape} {e e' : EltTy}
    (src : Memref sig .tc sp' s' e') (dst : Memref sig .tc sp s e)
    {hsrc : src.view.WordExact} {hdst : dst.view.WordExact} (r : ℕ) (O : CellTallies nD τ sig Unit)
    (hN : dst.view.dmaCredit = amt κ) (hexp : (Rd m).expect (cell d κ) r = amt κ)
    (hm : (levAts L lv : sProp 𝕄) ⊢ MayWait (d : Thread nD τ) (csem κ) () O) (P : sProp 𝕄)
    (hP : bigSep ((Rd m).duties (cell d κ) r \ ∅) (fun b => (Rd m).payload (cell d κ) r b) = P) :
    Step m Kn d iprop(ow d O ∗ cred (tallyAt (cell d κ) () (amt κ)) ∗ atPos ER (cell d κ) r ∅ 0)
      iprop(ow d O ∗ atPos ER (cell d κ) (r + 1) ∅ 0 ∗ reached ER (cell d κ) (r + 1) ∗ P)
      (fun K => .op (.waitDma2 q src dst hsrc hdst) fun _ => K) := by
  intro K Q
  subst hP
  unfold ow
  iintro ⟨#Hc, ⟨%W, HO⟩, Hcr, Hat⟩ Hk
  ihave Hi := (ctx_inv m Kn d κ) $$ Hc
  ihave Hl := (ctx_lev m Kn) $$ Hc
  ihave Hmay := hm $$ Hl
  iapply (Rounds.wp_wait_rest_token 𝒱₀ ER (Rd m) (d : Thread nD τ) none (sm := csem κ) (k' := amt κ) (κ := Kn (d, κ))
      (fun K' => by rw [wpE_waitDma2_eq 𝒱₀ (d : Thread nD τ) none Set.univ, hN, hq]) (Set.mem_univ _) () (O := O) (W := W) (R := r) (m := 0) (T := ∅)
      (by rw [Nat.zero_add]; exact hexp.symm)) $$ [Hi Hcr HO Hmay Hat]
  · isplitl [Hi]; · iexact Hi
    isplitl [Hcr]; · iexact Hcr
    isplitl [HO]; · iexact HO
    isplitl [Hmay] <;> iassumption
  iintro ⟨HO, Hat, Hr, Hp⟩
  iapply Hk
  isplitl [HO]; · iexists _; iexact HO
  isplitl [Hat]; · iexact Hat
  isplitl [Hr] <;> iassumption

/-- A copy to another device. -/
theorem do_send (d' : Dev nD) (κ κ' : Kd) {sp sp' : Space} {s : Shape} {e : EltTy} (src : Memref sig .tc sp s e)
    (dst : Memref sig .tc sp' s e) {hsc : dst.view.ref.isScScratch = false}
    (q : PosShare TreeShare) (X : s.Idx → Elt F e)
    (hmem : false ∈ (Rd m).duties (cell d κ) 0) (hmem' : false ∈ (Rd m).duties (cell d' κ') 0)
    (hN : dst.view.amount (csem κ') = amt κ) (hN' : amt κ' = amt κ)
    {hsrc : src.view.WordExact} {hdst : dst.view.WordExact}
    {hsem : DmaTarget.Typed sp (csem κ') (.remote (Dev.tc d') dst (csem κ) hsc : DmaTarget nD τ sig .tc sp' s e)}
    (O₀ O : CellTallies nD τ sig Unit) (hO : O₀ = O + tallyAt (cell d' κ') () (amt κ))
    (hpay : owns (d : Thread nD τ) src q X ⊢ pay m d κ 0 false) (hpay' : own' d' dst X ⊢ pay m d' κ' 0 false)
    (hr : τ.routes (d : Thread nD τ) (d' : Thread nD τ) = true := by routes) :
    Step m Kn d iprop(ow d O₀ ∗ owns (d : Thread nD τ) src q X ∗ some' d' dst ∗ dutyTok ER (cell d κ) 0 false ∗ dutyTok ER (cell d' κ') 0 false)
      iprop(ow d O ∗ cred (tallyAt (cell d κ) () (amt κ)))
      (fun K => .op (.enqueueDma src (.remote (Dev.tc d') dst (csem κ) hsc) (csem κ') hsrc hdst hsem) fun _ => K) := by
  intro K Q
  unfold some' owns ow
  iintro ⟨#Hc, ⟨%W, HO⟩, ⟨%fs, %hfs, Hs⟩, ⟨%Y, %fd, %hfd, Hd⟩, Ht, Ht'⟩ Hk
  ihave Hi := (ctx_inv m Kn d κ) $$ Hc
  ihave Hi' := (ctx_inv m Kn d' κ') $$ Hc
  ihave Hr := (ctx_reached m Kn d κ) $$ Hc
  ihave Hr' := (ctx_reached m Kn d' κ') $$ Hc
  iapply (Rounds.wp_send_pointsTo 𝒱₀ ER (Rd m) (d : Thread nD τ) none (c' := (d' : Thread nD τ)) (fs := fs) (fd := fd) (r₁ := 0) (r₂ := 0) (d₁ := false) (d₂ := false)
    hmem hmem' () () (amt κ) hN (amount_cell m d κ 0 false) ((amount_cell m d' κ' 0 false).trans hN') O hO (W := W)
    (by
      rw [payload_cell]
      refine BIBase.Entails.trans ?_ hpay
      unfold owns
      iintro H
      iexists fs; isplitr
      · ipureintro; exact hfs
      · iexact H)
    (by
      rw [payload_cell]
      refine BIBase.Entails.trans ?_ hpay'
      unfold own' owns
      iintro H
      iexists (dst.view.write (Elt F) fd (src.view.read (Elt F) fs) Finset.univ); isplitr
      · ipureintro; exact (View.read_write_univ _ _).trans hfs
      · iexact H) hr) $$ [Hi Hi' Hs Hd HO Ht Hr Ht' Hr']
  · isplitl [Hi]; · iexact Hi
    isplitl [Hi']; · iexact Hi'
    isplitl [Hs]; · iexact Hs
    isplitl [Hd]; · iexact Hd
    isplitl [HO]; · iexact HO
    isplitl [Ht]; · iexact Ht
    isplitl [Hr]; · iexact Hr
    isplitl [Ht'] <;> iassumption
  iintro ⟨Hcr, HO⟩
  iapply Hk
  isplitl [HO]; · iexists _; iexact HO
  iexact Hcr

/-- A signal to another device's barrier. -/
theorem do_signal (d' : Dev nD) (b : Bool) (O₀ O : CellTallies nD τ sig Unit) (hO : O₀ = O + tallyAt (cell d' none) () 1) :
    Step m Kn d iprop(ow d O₀ ∗ dutyTok ER (cell d' none) 0 b ∗ payB d' b) (ow d O)
      (fun K => (semSignalWord d' sBar 1#32).bind fun _ => K) := by
  intro K Q
  unfold ow
  iintro ⟨#Hc, ⟨%W, HO⟩, Ht, Hp⟩ Hk
  ihave Hi := (ctx_inv m Kn d' none) $$ Hc
  ihave Hr := (ctx_reached m Kn d' none) $$ Hc
  simp only [semSignalWord, Prog.bind_op, Prog.bind_ret]
  iapply (Rounds.wp_signal 𝒱₀ ER (Rd m) (d : Thread nD τ) none (dst := (d' : Thread nD τ)) (κ := Kn (d', none)) (r := 0)
      (d := b) (show b ∈ (Rd m).duties (cell d' none) 0 by rw [duties_cell m d' none 0]; exact Finset.mem_univ _) ((amount_cell m d' none 0 b).trans (by decide)) () O hO)
    $$ [Hi HO Ht Hp Hr]
  · isplitl [Hi]; · iexact Hi
    isplitl [HO]; · iexact HO
    isplitl [Ht]; · iexact Ht
    isplitl [Hp]; · iapply (show payB d' b ⊢ (Rd m).payload ((d' : Thread nD τ), SemLoc.reg sBar) 0 b from Entails.of_eq (payload_cell m d' none 0 b).symm) $$ Hp
    iexact Hr
  iintro HO
  iapply Hk
  iexists _; iexact HO

/-- The wait for both partners' signals. -/
theorem do_barWait (O : CellTallies nD τ sig Unit) (hm : (levAts L lv : sProp 𝕄) ⊢ MayWait (d : Thread nD τ) (csem none) () O) :
    Step m Kn d iprop(ow d O ∗ cred (tallyAt (cell d none) () 2) ∗ atPos ER (cell d none) 0 ∅ 0)
      iprop(ow d O ∗ atPos ER (cell d none) 1 ∅ 0 ∗ payB d false ∗ payB d true) barWait := by
  intro K Q
  unfold ow
  iintro ⟨#Hc, ⟨%W, HO⟩, Hcr, Hat⟩ Hk
  ihave Hi := (ctx_inv m Kn d none) $$ Hc
  ihave Hl := (ctx_lev m Kn) $$ Hc
  ihave Hmay := hm $$ Hl
  unfold barWait
  simp only [semWaitWord, Prog.bind_op, Prog.bind_ret]
  iapply (Rounds.wp_wait_rest_token 𝒱₀ ER (Rd m) (d : Thread nD τ) none (sm := csem none) (κ := Kn (d, none))
      (wpE_semWait_eq 𝒱₀ (d : Thread nD τ) none Set.univ) (Set.mem_univ _) () (O := O) (W := W) (R := 0) (m := 0) (T := ∅)
      ((Nat.zero_add _).trans (expect_bar m d).symm)) $$ [Hi Hcr HO Hmay Hat]
  · isplitl [Hi]; · iexact Hi
    isplitl [Hcr]; · iexact Hcr
    isplitl [HO]; · iexact HO
    isplitl [Hmay] <;> iassumption
  iintro ⟨HO, Hat, -, Hp⟩
  ihave Hp := (Entails.of_eq (rest_bar m d)) $$ Hp
  iapply Hk
  isplitl [HO]; · iexists _; iexact HO
  isplitl [Hat] <;> iassumption

/-! ## Narrowing a staged chunk -/

/-- The rectangles the slots are in the wholes. -/
abbrev rYst (s : Fin 2) := Rect.unit (s := S2x256x1024) ![s.val, 0, 0] S1x256x1024.size (inbSt s)
abbrev rSnd (s : Fin 16) := Rect.unit (s := S16x256x1024) ![s.val, 0, 0] S1x256x1024.size (inbSd s)
abbrev rLs (s : Fin 2) := Rect.unit (s := S2x512x1024) ![s.val, 0, 0] S1x512x1024.size (inbLs s)

/-- A staged chunk is narrowed into its slot of the send buffer; -/
theorem st_yCast (k : Fin 32) (X : S256x1024.Idx → Elt F .f32) :
    Step m Kn d iprop(own' d (yst (par k)) X ∗ some' d (snd (slot k)))
      iprop(own' d (yst (par k)) X ∗ own' d (snd (slot k)) (truncf .bf16 (X : FVec F S256x1024 .f32) bitsLt_bf16_f32)) (yCast k) := by
  intro K Q
  unfold yCast some' own' owns
  iintro ⟨-, ⟨%f, %hf, Hs⟩, ⟨%Y, %g, %hg, Hd⟩⟩ Hk
  iapply (wp_load_rect 𝒱₀ (d : Thread nD τ) none Set.univ (m := aYst) (r := rYst (par k))
    (S := (yst (par k)).view.set) (Finset.Subset.antisymm_iff.mp (View.set_reshape _ _)).2) $$ Hs
  iintro Hs
  iapply (wp_load_rect 𝒱₀ (d : Thread nD τ) none Set.univ (m := aSnd) (r := rSnd (slot k))
    (S := (snd (slot k)).view.set) (Finset.Subset.antisymm_iff.mp (View.set_reshape _ _)).2) $$ Hd
  iintro Hd
  iapply (wp_store 𝒱₀ (d : Thread nD τ) none Set.univ (m := aSnd) (r := rSnd (slot k))
    (Mk := Finset.univ) (S := (snd (slot k)).view.set) (Finset.Subset.antisymm_iff.mp (View.set_reshape _ _)).2) $$ Hd
  iintro Hd
  iapply Hk
  isplitl [Hs]
  · iexists f; isplitr
    · ipureintro; exact hf
    · iexact Hs
  · iexists ((aSnd.access (rSnd (slot k))).write (Elt F) g (castY ((aYst.access (rYst (par k))).read (Elt F) f)) Finset.univ); isplitr
    · ipureintro
      refine (congrArg (fun w => shapeCast S256x1024 w shapeCasts_S1x256x1024_S256x1024) (View.read_write_univ _ _)).trans ?_
      refine (shapeCast_shapeCast _ _ _).trans ?_
      exact congrArg (fun w : FVec F S256x1024 .f32 => truncf .bf16 w bitsLt_bf16_f32) hf
    · iexact Hd

/-- a staged block likewise. -/
theorem st_lCast (k : Fin 32) (X : S512x1024.Idx → Elt F .f32) :
    Step m Kn d iprop(own' d (lst (par k)) X ∗ some' d (lb (par k)))
      iprop(own' d (lst (par k)) X ∗ own' d (lb (par k)) (truncf .bf16 (X : FVec F S512x1024 .f32) bitsLt_bf16_f32)) (lCast k) := by
  intro K Q
  unfold lCast some' own' owns
  iintro ⟨-, ⟨%f, %hf, Hs⟩, ⟨%Y, %g, %hg, Hd⟩⟩ Hk
  iapply (wp_load_rect 𝒱₀ (d : Thread nD τ) none Set.univ (m := aLst) (r := rLs (par k))
    (S := (lst (par k)).view.set) (Finset.Subset.antisymm_iff.mp (View.set_reshape _ _)).2) $$ Hs
  iintro Hs
  iapply (wp_load_rect 𝒱₀ (d : Thread nD τ) none Set.univ (m := aLb) (r := rLs (par k))
    (S := (lb (par k)).view.set) (Finset.Subset.antisymm_iff.mp (View.set_reshape _ _)).2) $$ Hd
  iintro Hd
  iapply (wp_store 𝒱₀ (d : Thread nD τ) none Set.univ (m := aLb) (r := rLs (par k))
    (Mk := Finset.univ) (S := (lb (par k)).view.set) (Finset.Subset.antisymm_iff.mp (View.set_reshape _ _)).2) $$ Hd
  iintro Hd
  iapply Hk
  isplitl [Hs]
  · iexists f; isplitr
    · ipureintro; exact hf
    · iexact Hs
  · iexists ((aLb.access (rLs (par k))).write (Elt F) g (castL ((aLst.access (rLs (par k))).read (Elt F) f)) Finset.univ); isplitr
    · ipureintro
      refine (congrArg (fun w => shapeCast S512x1024 w shapeCasts_S1x512x1024_S512x1024) (View.read_write_univ _ _)).trans ?_
      refine (shapeCast_shapeCast _ _ _).trans ?_
      exact congrArg (fun w : FVec F S512x1024 .f32 => truncf .bf16 w bitsLt_bf16_f32) hf
    · iexact Hd

end Cert.KernelIdeal.Kx
-- ==== Proof.Turns.lean ====
/- The rules of the kernel's own operations, and one rule for each part of a turn of its loops. -/
module

public import proofs.«01_k».proof.Proof.Ops

@[expose] public section

noncomputable section

namespace Cert.KernelIdeal.Kx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (Kn : Dev nD × Kd → ℕ) (d : Dev nD)

/-! ## Short names -/

/-- The one instalment of a round of a cell; the credit of one; the device's place in the rounds of its cell. -/
abbrev tok (d : Dev nD) (κ : Kd) (r : ℕ) : sProp 𝕄 := dutyTok ER (cell d κ) r false
abbrev crd (d : Dev nD) (κ : Kd) : sProp 𝕄 := cred (tallyAt (cell d κ) () (amt κ))
abbrev pos (d : Dev nD) (κ : Kd) (r : ℕ) : sProp 𝕄 := atPos ER (cell d κ) r ∅ 0
abbrev rch (d : Dev nD) (κ : Kd) (r : ℕ) : sProp 𝕄 := reached ER (cell d κ) r

/-- The shares of the operand the two kinds of load read under. -/
abbrev qY : PosShare TreeShare := fullShare.right.left
abbrev qL : PosShare TreeShare := fullShare.right.right

/-- The staging slot of a number. -/
abbrev par' (n : ℕ) : Fin 2 := ⟨n % 2, Nat.mod_lt _ (by decide)⟩

theorem par'_two (n : ℕ) : par' (n + 2) = par' n := Fin.ext (by show (n + 2) % 2 = n % 2; omega)

/-! ## The operations -/

theorem st_yStart (k : Fin 32) :
    Step m Kn d iprop(owns (d : Thread nD τ) (xY d k) qY (ldY m d k) ∗ some' d (yst (par k)) ∗ tok d (k2 0 (par k)) (k.val / 2) ∗ rch d (k2 0 (par k)) (k.val / 2))
      (crd d (k2 0 (par k))) (yStart d k) :=
  do_copy (k2 0 (par k)) (xY d k) (yst (par k)) qY (ldY m d k) (k.val / 2) (mem_k2 m d 0 (par k) _ (by have := k.isLt; omega)) rfl
    (by
      show _ ⊢ own' d (yst (par k)) (ldY m d (chOf (k.val / 2) (par k)))
      rw [chOf_par]; exact sep_elim_left)

theorem st_lStart (k : Fin 32) :
    Step m Kn d iprop(owns (d : Thread nD τ) (xL d k) qL (ldL m d k) ∗ some' d (lst (par k)) ∗ tok d (k2 1 (par k)) (k.val / 2) ∗ rch d (k2 1 (par k)) (k.val / 2))
      (crd d (k2 1 (par k))) (lStart d k) :=
  do_copy (k2 1 (par k)) (xL d k) (lst (par k)) qL (ldL m d k) (k.val / 2) (mem_k2 m d 1 (par k) _ (by have := k.isLt; omega)) rfl
    (by
      show _ ⊢ own' d (lst (par k)) (ldL m d (chOf (k.val / 2) (par k)))
      rw [chOf_par]; exact sep_elim_left)

theorem st_lStore (k : Fin 32) :
    Step m Kn d iprop(own' d (lb (par k)) (chL m d k) ∗ some' d (oL d k) ∗ tok d (k2 2 (par k)) (k.val / 2) ∗ rch d (k2 2 (par k)) (k.val / 2))
      (crd d (k2 2 (par k))) (lStore d k) :=
  do_copy (k2 2 (par k)) (lb (par k)) (oL d k) fullShare (chL m d k) (k.val / 2) (mem_k2 m d 2 (par k) _ (by have := k.isLt; omega)) rfl
    (by
      show _ ⊢ iprop(own' d (oL d (chOf (k.val / 2) (par k))) (chL m d (chOf (k.val / 2) (par k))) ∗ own' d (lb (par k)) (chL m d (chOf (k.val / 2) (par k))))
      rw [chOf_par])

theorem st_yStore (k : Fin 32) :
    Step m Kn d iprop(owns (d : Thread nD τ) (yb k) fullShare.left (inY m d k) ∗ some' d (oY d k) ∗ tok d (k32 4 k) 0 ∗ rch d (k32 4 k) 0)
      (crd d (k32 4 k)) (yStore d k) :=
  do_copy (k32 4 k) (yb k) (oY d k) fullShare.left (inY m d k) 0 (mem_k32 m d 4 k) rfl .rfl

theorem st_xStore (k : Fin 32) :
    Step m Kn d iprop(own' d (xb k) (inX m d k) ∗ some' d (oX d k) ∗ tok d (k32 5 k) 0 ∗ rch d (k32 5 k) 0)
      (crd d (k32 5 k)) (xStore d k) :=
  do_copy (k32 5 k) (xb k) (oX d k) fullShare (inX m d k) 0 (mem_k32 m d 5 k) rfl .rfl

theorem st_sendY (k : Fin 32) (b : ℕ) :
    Step m Kn d iprop(ow d (Orem d k.val b) ∗ own' d (snd (slot k)) (chY m d k) ∗ some' (peerY d) (yb k) ∗ tok d (k32 0 k) 0 ∗ tok (peerY d) (k32 1 k) 0)
      iprop(ow d (Orem d (k.val + 1) b) ∗ crd d (k32 0 k)) (sendY d k) :=
  do_send (peerY d) (k32 0 k) (k32 1 k) (snd (slot k)) (yb k) fullShare (chY m d k) (mem_k32 m d 0 k) (mem_k32 m (peerY d) 1 k) rfl rfl
    (Orem d k.val b) (Orem d (k.val + 1) b) (Orem_payY d k b) .rfl
    (by
      show _ ⊢ own' (peerY d) (yb k) (chY m (peerY (peerY d)) k)
      rw [peerY_peerY])

theorem st_sendX (k : Fin 32) (a : ℕ) :
    Step m Kn d iprop(ow d (Orem d a k.val) ∗ owns (d : Thread nD τ) (yb k) fullShare.right (inY m d k) ∗ some' (peerX d) (xb k) ∗ tok d (k32 2 k) 0 ∗ tok (peerX d) (k32 3 k) 0)
      iprop(ow d (Orem d a (k.val + 1)) ∗ crd d (k32 2 k)) (sendX d k) :=
  do_send (peerX d) (k32 2 k) (k32 3 k) (yb k) (xb k) fullShare.right (inY m d k) (mem_k32 m d 2 k) (mem_k32 m (peerX d) 3 k) rfl rfl
    (Orem d a k.val) (Orem d a (k.val + 1)) (Orem_payX d a k) .rfl
    (by
      show _ ⊢ own' (peerX d) (xb k) (inY m (peerX (peerX d)) k)
      rw [peerX_peerX])

theorem st_yWait (k : Fin 32) (a b : ℕ) :
    Step m Kn d iprop(ow d (Orem d a b) ∗ crd d (k2 0 (par k)) ∗ pos d (k2 0 (par k)) (k.val / 2))
      iprop(ow d (Orem d a b) ∗ pos d (k2 0 (par k)) (k.val / 2 + 1) ∗ rch d (k2 0 (par k)) (k.val / 2 + 1) ∗ own' d (yst (par k)) (ldY m d k)) (yWait d k) :=
  do_wait (k2 0 (par k)) (sYld (par k)) rfl (xY d k) (yst (par k)) (k.val / 2) (Orem d a b) rfl
    (expect_k2 m d 0 (par k) _ (by have := k.isLt; omega)) (mayWait_local d _ (by exact Nat.zero_le 1) a b) _
    (by
      rw [rest_k2 m d 0 (par k) _ (by have := k.isLt; omega)]
      show own' d (yst (par k)) (ldY m d (chOf (k.val / 2) (par k))) = _
      rw [chOf_par])

theorem st_lWait (k : Fin 32) (a b : ℕ) :
    Step m Kn d iprop(ow d (Orem d a b) ∗ crd d (k2 1 (par k)) ∗ pos d (k2 1 (par k)) (k.val / 2))
      iprop(ow d (Orem d a b) ∗ pos d (k2 1 (par k)) (k.val / 2 + 1) ∗ rch d (k2 1 (par k)) (k.val / 2 + 1) ∗ own' d (lst (par k)) (ldL m d k)) (lWait d k) :=
  do_wait (k2 1 (par k)) (sLld (par k)) rfl (xL d k) (lst (par k)) (k.val / 2) (Orem d a b) rfl
    (expect_k2 m d 1 (par k) _ (by have := k.isLt; omega)) (mayWait_local d _ (by exact Nat.zero_le 1) a b) _
    (by
      rw [rest_k2 m d 1 (par k) _ (by have := k.isLt; omega)]
      show own' d (lst (par k)) (ldL m d (chOf (k.val / 2) (par k))) = _
      rw [chOf_par])

theorem st_lStored (k : Fin 32) (a b : ℕ) :
    Step m Kn d iprop(ow d (Orem d a b) ∗ crd d (k2 2 (par k)) ∗ pos d (k2 2 (par k)) (k.val / 2))
      iprop(ow d (Orem d a b) ∗ pos d (k2 2 (par k)) (k.val / 2 + 1) ∗ rch d (k2 2 (par k)) (k.val / 2 + 1)
        ∗ own' d (oL d k) (chL m d k) ∗ own' d (lb (par k)) (chL m d k)) (lStored d k) :=
  do_wait (k2 2 (par k)) (sLst (par k)) rfl (lb (par k)) (oL d k) (k.val / 2) (Orem d a b) rfl
    (expect_k2 m d 2 (par k) _ (by have := k.isLt; omega)) (mayWait_local d _ (by exact Nat.zero_le 1) a b) _
    (by
      rw [rest_k2 m d 2 (par k) _ (by have := k.isLt; omega)]
      show iprop(own' d (oL d (chOf (k.val / 2) (par k))) (chL m d (chOf (k.val / 2) (par k))) ∗ own' d (lb (par k)) (chL m d (chOf (k.val / 2) (par k)))) = _
      rw [chOf_par])

/-- The wait for the one round of a cell of thirty-two. -/
theorem st_once (f : Fin 6) (k : Fin 32) (a b : ℕ) (q : DmaSem sig) (hq : csem (k32 f k) = .dma q) {sp sp' : Space} {s s' : Shape} {e e' : EltTy}
    (src : Memref sig .tc sp' s' e') (dst : Memref sig .tc sp s e) {hsrc : src.view.WordExact} {hdst : dst.view.WordExact}
    (hN : dst.view.dmaCredit = amt (k32 f k)) (hm : (levAts L lv : sProp 𝕄) ⊢ MayWait (d : Thread nD τ) (csem (k32 f k)) () (Orem d a b)) :
    Step m Kn d iprop(ow d (Orem d a b) ∗ crd d (k32 f k) ∗ pos d (k32 f k) 0)
      iprop(ow d (Orem d a b) ∗ pos d (k32 f k) 1 ∗ pay32 m d k f) (fun K => .op (.waitDma2 q src dst hsrc hdst) fun _ => K) :=
  (do_wait (k32 f k) q hq src dst 0 (Orem d a b) hN (expect_k32 m d f k) hm _ (rest_k32 m d f k)).post
    (sep_mono_right (sep_mono_right sep_elim_right))

theorem st_sentY (k : Fin 32) (a b : ℕ) :
    Step m Kn d iprop(ow d (Orem d a b) ∗ crd d (k32 0 k) ∗ pos d (k32 0 k) 0)
      iprop(ow d (Orem d a b) ∗ pos d (k32 0 k) 1 ∗ own' d (snd (slot k)) (chY m d k)) (sentY k) :=
  st_once m Kn d 0 k a b (sYs k) rfl (yb k) (snd (slot k)) rfl (mayWait_local d _ (by exact Nat.zero_le 1) a b)

theorem st_recvY (k : Fin 32) (a b : ℕ) (ha : k.val < a) (hb : k.val ≤ b) :
    Step m Kn d iprop(ow d (Orem d a b) ∗ crd d (k32 1 k) ∗ pos d (k32 1 k) 0)
      iprop(ow d (Orem d a b) ∗ pos d (k32 1 k) 1 ∗ own' d (yb k) (inY m d k)) (recvY k) :=
  st_once m Kn d 1 k a b (sYr k) rfl (snd (slot k)) (yb k) rfl (mayWait_yr d k a b ha hb)

theorem st_sentX (k : Fin 32) (a b : ℕ) :
    Step m Kn d iprop(ow d (Orem d a b) ∗ crd d (k32 2 k) ∗ pos d (k32 2 k) 0)
      iprop(ow d (Orem d a b) ∗ pos d (k32 2 k) 1 ∗ owns (d : Thread nD τ) (yb k) fullShare.right (inY m d k)) (sentX k) :=
  st_once m Kn d 2 k a b (sXs k) rfl (xb k) (yb k) rfl (mayWait_local d _ (by exact Nat.zero_le 1) a b)

theorem st_recvX (k : Fin 32) :
    Step m Kn d iprop(ow d (Orem d 32 32) ∗ crd d (k32 3 k) ∗ pos d (k32 3 k) 0)
      iprop(ow d (Orem d 32 32) ∗ pos d (k32 3 k) 1 ∗ own' d (xb k) (inX m d k)) (recvX k) :=
  st_once m Kn d 3 k 32 32 (sXr k) rfl (yb k) (xb k) rfl
    (mayWait_cut d (k32 3 k) 32 32 (fun j hj => by show 3 + 2 * k.val < _; have := k.isLt; omega) (fun j hj => by show 3 + 2 * k.val < _; have := k.isLt; omega))

theorem st_yStored (k : Fin 32) (a b : ℕ) :
    Step m Kn d iprop(ow d (Orem d a b) ∗ crd d (k32 4 k) ∗ pos d (k32 4 k) 0)
      iprop(ow d (Orem d a b) ∗ pos d (k32 4 k) 1 ∗ own' d (oY d k) (inY m d k) ∗ owns (d : Thread nD τ) (yb k) fullShare.left (inY m d k)) (yStored d k) :=
  st_once m Kn d 4 k a b (sYo k) rfl (yb k) (oY d k) rfl (mayWait_local d _ (by exact Nat.zero_le 1) a b)

theorem st_xStored (k : Fin 32) (a b : ℕ) :
    Step m Kn d iprop(ow d (Orem d a b) ∗ crd d (k32 5 k) ∗ pos d (k32 5 k) 0)
      iprop(ow d (Orem d a b) ∗ pos d (k32 5 k) 1 ∗ own' d (oX d k) (inX m d k) ∗ own' d (xb k) (inX m d k)) (xStored d k) :=
  st_once m Kn d 5 k a b (sXo k) rfl (xb k) (oX d k) rfl (mayWait_local d _ (by exact Nat.zero_le 1) a b)

end Cert.KernelIdeal.Kx
-- ==== Proof.Loops.lean ====
/- One rule for each part of a turn of the kernel's loops, with the resources of all chunks about it. -/
module

public import proofs.«01_k».proof.Proof.Turns

@[expose] public section

noncomputable section

namespace Cert.KernelIdeal.Kx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (Kn : Dev nD × Kd → ℕ) (d : Dev nD)

variable (F) in
/-- An assertion. -/
abbrev SP : Type := sProp 𝕄

/-! ## A pair of staging slots, loaded in turn -/

section Pair
variable (a : Fin 3) (room : Fin 2 → SP F) (tk full : Fin 32 → SP F)

/-- The slot of load `n` is free; that load is under way; whichever holds, when there is such a load. -/
def PFree (n : ℕ) : sProp 𝕄 := iprop(room (par' n) ∗ rch d (k2 a (par' n)) (n / 2))
def PCr (n : ℕ) : sProp 𝕄 := crd d (k2 a (par' n))
def PFl (n : ℕ) : sProp 𝕄 := if n < 32 then PCr (F := F) d a n else PFree d a room n
def PPos (n : ℕ) : sProp 𝕄 := pos d (k2 a (par' n)) (n / 2)

/-- Between turns; after the next load is begun; after the turn's own has arrived. -/
def PI (k : ℕ) : sProp 𝕄 := iprop(PFl d a room k ∗ PFree d a room (k + 1) ∗ Rg (k + 1) 32 tk ∗ PPos (F := F) d a k ∗ PPos (F := F) d a (k + 1))
def PI₁ (k : ℕ) : sProp 𝕄 := iprop(PFl d a room k ∗ PFl d a room (k + 1) ∗ Rg (k + 2) 32 tk ∗ PPos (F := F) d a k ∗ PPos (F := F) d a (k + 1))
def PI₂ (k : ℕ) : sProp 𝕄 :=
  iprop(rch d (k2 a (par' (k + 2))) ((k + 2) / 2) ∗ PFl d a room (k + 1) ∗ Rg (k + 2) 32 tk ∗ PPos (F := F) d a (k + 1) ∗ PPos (F := F) d a (k + 2))

variable {m Kn d a room tk full}

theorem pair_start (k : Fin 32) (start : Fin 32 → Pg F → Pg F)
    (hs : ∀ k : Fin 32, Step m Kn d iprop(tk k ∗ PFree d a room k.val) (PCr d a k.val) (start k)) :
    Step m Kn d (PI d a room tk k.val) (PI₁ d a room tk k.val) (onNext k start) := by
  refine Step.onNext k start (fun hk => ?_) (fun hk => ?_)
  · intro K Q
    unfold PI
    rw [Rg_take ⟨k.val + 1, hk⟩ 32 hk tk]
    iintro ⟨#Hc, H1, H2, ⟨Ht, H3⟩, H4, H5⟩ Hk
    iapply (hs ⟨k.val + 1, hk⟩ K Q) $$ [H2 Ht]
    · isplitr; · iexact Hc
      isplitl [Ht] <;> iassumption
    iintro H2
    iapply Hk
    unfold PI₁
    isplitl [H1]; · iexact H1
    isplitl [H2]
    · unfold PFl; rw [if_pos hk]; iexact H2
    isplitl [H3]; · iexact H3
    isplitl [H4] <;> iassumption
  · unfold PI PI₁
    iintro ⟨H1, H2, H3, H4, H5⟩
    isplitl [H1]; · iexact H1
    isplitl [H2]
    · rw [PFl, if_neg (by omega)]; iexact H2
    isplitl [H3]
    · rw [Rg_nil (k.val + 2) 32 (by omega)]; iempintro
    isplitl [H4] <;> iassumption

theorem pair_wait (k : Fin 32) (R : sProp 𝕄) (wait : Pg F → Pg F)
    (hw : Step m Kn d iprop(R ∗ crd d (k2 a (par k)) ∗ pos d (k2 a (par k)) (k.val / 2))
      iprop(R ∗ pos d (k2 a (par k)) (k.val / 2 + 1) ∗ rch d (k2 a (par k)) (k.val / 2 + 1) ∗ full k) wait) :
    Step m Kn d iprop(R ∗ PI₁ d a room tk k.val) iprop(R ∗ PI₂ d a room tk k.val ∗ full k) wait := by
  intro K Q
  have e : PFl d a room k.val = crd d (k2 a (par k)) := if_pos k.isLt
  unfold PI₁
  rw [e]
  unfold PPos
  iintro ⟨#Hc, HR, H1, H2, H3, H4, H5⟩ Hk
  iapply (hw K Q) $$ [HR H1 H4]
  · isplitr; · iexact Hc
    isplitl [HR]; · iexact HR
    isplitl [H1] <;> iassumption
  iintro ⟨HR, H4, Hr, Hf⟩
  iapply Hk
  isplitl [HR]; · iexact HR
  isplitr [Hf]
  · unfold PI₂ PPos
    rw [par'_two, show (k.val + 2) / 2 = k.val / 2 + 1 by omega]
    isplitl [Hr]; · iexact Hr
    isplitl [H2]; · iexact H2
    isplitl [H3]; · iexact H3
    isplitl [H5] <;> iassumption
  · iexact Hf

theorem pair_back (k : Fin 32) : iprop(PI₂ d a room tk k.val ∗ room (par k)) ⊢ PI d a room tk (k.val + 1) := by
  have e : PFree d a room (k.val + 1 + 1) = iprop(room (par' (k.val + 2)) ∗ rch d (k2 a (par' (k.val + 2))) ((k.val + 2) / 2)) := rfl
  unfold PI₂ PI
  rw [e, par'_two]
  iintro ⟨⟨Hr, H1, H2, H3, H4⟩, Hb⟩
  isplitl [H1]; · iexact H1
  isplitl [Hr Hb]
  · isplitl [Hb] <;> iassumption
  isplitl [H2]; · iexact H2
  isplitl [H3] <;> iassumption

end Pair

/-! ## The send buffer -/

def Ssl (k : Fin 32) : sProp 𝕄 := some' d (snd (slot k))
def Sfly (k : Fin 32) : sProp 𝕄 := iprop(crd d (k32 0 k) ∗ pos d (k32 0 k) 0)
def Sdone (k : Fin 32) : sProp 𝕄 := pos d (k32 0 k) 1
def Stok (k : Fin 32) : sProp 𝕄 :=
  iprop(tok d (k32 0 k) 0 ∗ tok (peerY d) (k32 1 k) 0 ∗ some' (peerY d) (yb k) ∗ pos d (k32 0 k) 0)

/-- Between turns; once the turn's slot is free. -/
def SI (k : ℕ) : sProp 𝕄 := iprop(Rg k 16 (Ssl d) ∗ Rg (k - 16) k (Sfly d) ∗ Rg 0 (k - 16) (Sdone d) ∗ Rg k 32 (Stok d))
def SI₁ (k : ℕ) : sProp 𝕄 := iprop(Rg (k + 1) 16 (Ssl d) ∗ Rg (k + 1 - 16) k (Sfly d) ∗ Rg 0 (k + 1 - 16) (Sdone d) ∗ Rg k 32 (Stok d))

variable {m Kn d}

theorem send_free (k : Fin 32) (a b : ℕ) :
    Step m Kn d iprop(ow d (Orem d a b) ∗ SI (F := F) d k.val) iprop(ow d (Orem d a b) ∗ SI₁ d k.val ∗ some' d (snd (slot k))) (onBack 16 k sentY) := by
  refine Step.onBack 16 k sentY (fun hk => ?_) (fun hk => ?_)
  · intro K Q
    have hlt := k.isLt
    unfold SI SI₁
    rw [Rg_take ⟨k.val - 16, by omega⟩ k.val (by show k.val - 16 < _; omega) (Sfly d), Rg_nil k.val 16 hk, Rg_nil (k.val + 1) 16 (by omega),
      show k.val + 1 - 16 = k.val - 16 + 1 by omega, Rg_put 0 ⟨k.val - 16, by omega⟩ (Nat.zero_le _) (Sdone d)]
    unfold Sfly
    iintro ⟨#Hc, HO, -, ⟨⟨Hcr, Hp⟩, H1⟩, H2, H3⟩ Hk
    iapply (st_sentY m Kn d ⟨k.val - 16, Nat.lt_of_le_of_lt (Nat.sub_le _ _) hlt⟩ a b K Q) $$ [HO Hcr Hp]
    · isplitr; · iexact Hc
      isplitl [HO]; · iexact HO
      isplitl [Hcr] <;> iassumption
    iintro ⟨HO, Hp, Hs⟩
    iapply Hk
    isplitl [HO]; · iexact HO
    isplitr [Hs]
    · isplitr; · iempintro
      isplitl [H1]; · iexact H1
      isplitl [Hp H2]
      · isplitl [Hp]
        · unfold Sdone; iexact Hp
        · iexact H2
      · iexact H3
    · rw [show slot k = slot ⟨k.val - 16, by omega⟩ from Fin.ext (by show k.val % 16 = (k.val - 16) % 16; omega)]
      iexists _; iexact Hs
  · unfold SI SI₁
    rw [Rg_take k 16 hk (Ssl d), show k.val + 1 - 16 = 0 by omega, show k.val - 16 = 0 by omega]
    iintro ⟨HO, ⟨Hs, H1⟩, H2, H3, H4⟩
    isplitl [HO]; · iexact HO
    isplitr [Hs]
    · isplitl [H1]; · iexact H1
      isplitl [H2]; · iexact H2
      isplitl [H3] <;> iassumption
    · unfold Ssl; iexact Hs

theorem send_go (k : Fin 32) (b : ℕ) :
    Step m Kn d iprop(ow d (Orem d k.val b) ∗ SI₁ d k.val ∗ own' d (snd (slot k)) (chY m d k))
      iprop(ow d (Orem d (k.val + 1) b) ∗ SI (F := F) d (k.val + 1)) (sendY d k) := by
  intro K Q
  have hlt := k.isLt
  unfold SI SI₁
  rw [Rg_put (k.val + 1 - 16) k (by omega) (Sfly d), Rg_take k 32 hlt (Stok d)]
  unfold Stok
  iintro ⟨#Hc, HO, ⟨H1, H2, H3, ⟨⟨Ht, Ht', Hy, Hp⟩, H4⟩⟩, Hs⟩ Hk
  iapply (st_sendY m Kn d k b K Q) $$ [HO Hs Hy Ht Ht']
  · isplitr; · iexact Hc
    isplitl [HO]; · iexact HO
    isplitl [Hs]; · iexact Hs
    isplitl [Hy]; · iexact Hy
    isplitl [Ht] <;> iassumption
  iintro ⟨HO, Hcr⟩
  iapply Hk
  isplitl [HO]; · iexact HO
  isplitl [H1]; · iexact H1
  isplitl [H2 Hcr Hp]
  · isplitl [Hcr Hp]
    · unfold Sfly; isplitl [Hcr] <;> iassumption
    · iexact H2
  isplitl [H3] <;> iassumption

/-- When every chunk is sent, the last slots come back one by one. -/
def SE (k : ℕ) : sProp 𝕄 := iprop(Rg k 32 (Sfly d) ∗ Rg 0 k (Sdone d) ∗ Rg 16 k (Ssl d))

theorem send_end (k : Fin 32) (hk : 16 ≤ k.val) :
    Step m Kn d iprop(ow d (Orem d 32 32) ∗ SE (F := F) (d := d) k.val) iprop(ow d (Orem d 32 32) ∗ SE (d := d) (k.val + 1)) (sentY k) := by
  intro K Q
  unfold SE
  rw [Rg_take k 32 k.isLt (Sfly d), Rg_put 0 k (Nat.zero_le _) (Sdone d), Rg_put 16 k hk (Ssl d)]
  unfold Sfly
  iintro ⟨#Hc, HO, ⟨⟨Hcr, Hp⟩, H1⟩, H2, H3⟩ Hk
  iapply (st_sentY m Kn d k 32 32 K Q) $$ [HO Hcr Hp]
  · isplitr; · iexact Hc
    isplitl [HO]; · iexact HO
    isplitl [Hcr] <;> iassumption
  iintro ⟨HO, Hp, Hs⟩
  iapply Hk
  isplitl [HO]; · iexact HO
  isplitl [H1]; · iexact H1
  isplitl [Hp H2]
  · isplitl [Hp]
    · unfold Sdone; iexact Hp
    · iexact H2
  isplitl [Hs]
  · unfold Ssl; iexists _; iexact Hs
  · iexact H3

/-! ## The stores of the device's own blocks -/

variable (m d)

def LFree (n : ℕ) : sProp 𝕄 := iprop(some' d (lb (par' n)) ∗ rch d (k2 2 (par' n)) (n / 2))
def LBf (k : Fin 32) : sProp 𝕄 := LFree d k.val
def Lfly (k : Fin 32) : sProp 𝕄 := crd d (k2 2 (par k))
def Ldone (k : Fin 32) : sProp 𝕄 := own' d (oL d k) (chL m d k)
def Ltok (k : Fin 32) : sProp 𝕄 := iprop(some' d (oL d k) ∗ tok d (k2 2 (par k)) (k.val / 2))

/-- Between turns; once the turn's slot is free. -/
def LI (k : ℕ) : sProp 𝕄 :=
  iprop(Rg k 2 (LBf d) ∗ Rg (k - 2) k (Lfly d) ∗ Rg 0 (k - 2) (Ldone m d) ∗ Rg k 32 (Ltok d) ∗ PPos d 2 (k - 2) ∗ PPos d 2 (k - 2 + 1))
def LI₁ (k : ℕ) : sProp 𝕄 :=
  iprop(Rg (k + 1) 2 (LBf d) ∗ Rg (k + 1 - 2) k (Lfly d) ∗ Rg 0 (k + 1 - 2) (Ldone m d) ∗ Rg k 32 (Ltok d) ∗ PPos d 2 (k + 1 - 2) ∗ PPos d 2 (k + 1 - 2 + 1))

variable {m d}

/-- The wait for a store, whose slot is then free for the store two later. -/
theorem st_lDone (j : Fin 32) (a b : ℕ) :
    Step m Kn d iprop(ow d (Orem d a b) ∗ Lfly d j ∗ PPos d 2 j.val)
      iprop(ow d (Orem d a b) ∗ PPos d 2 (j.val + 2) ∗ LFree d (j.val + 2) ∗ Ldone m d j) (lStored d j) := by
  refine (st_lStored m Kn d j a b).post ?_
  unfold PPos LFree Ldone
  rw [par'_two, show (j.val + 2) / 2 = j.val / 2 + 1 by omega]
  iintro ⟨HO, Hp, Hr, Ho, Hb⟩
  isplitl [HO]; · iexact HO
  isplitl [Hp]; · iexact Hp
  isplitr [Ho]
  · isplitl [Hb]
    · iexists _; iexact Hb
    · iexact Hr
  · iexact Ho

theorem loc_free (k : Fin 32) (a b : ℕ) :
    Step m Kn d iprop(ow d (Orem d a b) ∗ LI m d k.val) iprop(ow d (Orem d a b) ∗ LI₁ m d k.val ∗ LFree d k.val) (onBack 2 k (lStored d)) := by
  refine Step.onBack 2 k (lStored d) (fun hk => ?_) (fun hk => ?_)
  · intro K Q
    have hlt := k.isLt
    unfold LI LI₁
    rw [Rg_take ⟨k.val - 2, by omega⟩ k.val (by show k.val - 2 < _; omega) (Lfly d), Rg_nil k.val 2 hk, Rg_nil (k.val + 1) 2 (by omega),
      show k.val + 1 - 2 = k.val - 2 + 1 by omega, Rg_put 0 ⟨k.val - 2, by omega⟩ (Nat.zero_le _) (Ldone m d)]
    iintro ⟨#Hc, HO, -, ⟨Hf, H1⟩, H2, H3, Hp, Hp'⟩ Hk
    iapply (st_lDone (m := m) (Kn := Kn) (d := d) ⟨k.val - 2, Nat.lt_of_le_of_lt (Nat.sub_le _ _) hlt⟩ a b K Q) $$ [HO Hf Hp]
    · isplitr; · iexact Hc
      isplitl [HO]; · iexact HO
      isplitl [Hf] <;> iassumption
    rw [show (⟨k.val - 2, by omega⟩ : Fin 32).val + 2 = k.val by show k.val - 2 + 2 = _; omega, show (⟨k.val - 2, Nat.lt_of_le_of_lt (Nat.sub_le _ _) hlt⟩ : Fin 32).val = k.val - 2 from rfl]
    iintro ⟨HO, Hp, Hb, Hd⟩
    iapply Hk
    isplitl [HO]; · iexact HO
    isplitr [Hb]
    · isplitr; · iempintro
      isplitl [H1]; · iexact H1
      isplitl [Hd H2]; · isplitl [Hd] <;> iassumption
      isplitl [H3]; · iexact H3
      isplitl [Hp'] <;> iassumption
    · iexact Hb
  · unfold LI LI₁
    rw [Rg_take k 2 hk (LBf d), show k.val + 1 - 2 = 0 by omega, show k.val - 2 = 0 by omega]
    iintro ⟨HO, ⟨Hs, H1⟩, H2, H3, H4, H5⟩
    isplitl [HO]; · iexact HO
    isplitr [Hs]
    · isplitl [H1]; · iexact H1
      isplitl [H2]; · iexact H2
      isplitl [H3]; · iexact H3
      isplitl [H4] <;> iassumption
    · unfold LBf; iexact Hs

theorem loc_go (k : Fin 32) :
    Step m Kn d iprop(LI₁ m d k.val ∗ own' d (lb (par k)) (chL m d k) ∗ rch d (k2 2 (par k)) (k.val / 2)) (LI m d (k.val + 1)) (lStore d k) := by
  intro K Q
  have hlt := k.isLt
  unfold LI LI₁
  rw [Rg_put (k.val + 1 - 2) k (by omega) (Lfly d), Rg_take k 32 hlt (Ltok d)]
  unfold Ltok
  iintro ⟨#Hc, ⟨H1, H2, H3, ⟨⟨Ho, Ht⟩, H4⟩, H5⟩, Hs, Hr⟩ Hk
  iapply (st_lStore m Kn d k K Q) $$ [Hs Ho Ht Hr]
  · isplitr; · iexact Hc
    isplitl [Hs]; · iexact Hs
    isplitl [Ho]; · iexact Ho
    isplitl [Ht] <;> iassumption
  iintro Hcr
  iapply Hk
  isplitl [H1]; · iexact H1
  isplitl [H2 Hcr]
  · isplitl [Hcr]
    · unfold Lfly; iexact Hcr
    · iexact H2
  isplitl [H3]; · iexact H3
  isplitl [H4] <;> iassumption

/-! ## Received chunks forwarded and stored -/

variable (m d)

def Dtok (k : Fin 32) : sProp 𝕄 :=
  iprop(crd d (k32 1 k) ∗ pos d (k32 1 k) 0 ∗ some' (peerX d) (xb k) ∗ tok d (k32 2 k) 0 ∗ tok (peerX d) (k32 3 k) 0
    ∗ some' d (oY d k) ∗ tok d (k32 4 k) 0 ∗ pos d (k32 2 k) 0 ∗ pos d (k32 4 k) 0)
def Dfly (k : Fin 32) : sProp 𝕄 :=
  iprop(pos d (k32 1 k) 1 ∗ crd d (k32 2 k) ∗ crd d (k32 4 k) ∗ pos d (k32 2 k) 0 ∗ pos d (k32 4 k) 0)

def Ctok (k : Fin 32) : sProp 𝕄 := iprop(crd d (k32 3 k) ∗ pos d (k32 3 k) 0 ∗ some' d (oX d k) ∗ tok d (k32 5 k) 0 ∗ pos d (k32 5 k) 0)
def Cfly (k : Fin 32) : sProp 𝕄 := iprop(pos d (k32 3 k) 1 ∗ crd d (k32 5 k) ∗ pos d (k32 5 k) 0)

def Fin' (k : Fin 32) : sProp 𝕄 :=
  iprop(pos d (k32 1 k) 1 ∗ pos d (k32 2 k) 1 ∗ pos d (k32 3 k) 1 ∗ pos d (k32 4 k) 1 ∗ pos d (k32 5 k) 1
    ∗ some' d (yb k) ∗ some' d (xb k) ∗ own' d (oY d k) (inY m d k) ∗ own' d (oX d k) (inX m d k))

variable {m d}

theorem drain_one (k : Fin 32) (a : ℕ) (ha : k.val < a) :
    Step m Kn d iprop(ow d (Orem d a k.val) ∗ Dtok (F := F) d k) iprop(ow d (Orem d a (k.val + 1)) ∗ Dfly d k) (drain d k) := by
  intro K Q
  unfold drain Dtok
  iintro ⟨#Hc, HO, Hc1, Hp1, Hxb, Ht2, Ht3, HoY, Ht4, Hp2, Hp4⟩ Hk
  iapply (st_recvY m Kn d k a k.val ha le_rfl _ Q) $$ [HO Hc1 Hp1]
  · isplitr; · iexact Hc
    isplitl [HO]; · iexact HO
    isplitl [Hc1] <;> iassumption
  iintro ⟨HO, Hp1, Hyb⟩
  ihave Hyb := (owns_halves (d : Thread nD τ) (yb k) fullShare (inY m d k)).1 $$ Hyb
  icases Hyb with ⟨Hl, Hr⟩
  iapply (st_sendX m Kn d k a _ Q) $$ [HO Hr Hxb Ht2 Ht3]
  · isplitr; · iexact Hc
    isplitl [HO]; · iexact HO
    isplitl [Hr]; · iexact Hr
    isplitl [Hxb]; · iexact Hxb
    isplitl [Ht2] <;> iassumption
  iintro ⟨HO, Hc2⟩
  iapply (st_yStore m Kn d k K Q) $$ [Hl HoY Ht4]
  · isplitr; · iexact Hc
    isplitl [Hl]; · iexact Hl
    isplitl [HoY]; · iexact HoY
    isplitl [Ht4]; · iexact Ht4
    iapply (ctx_reached m Kn d (k32 4 k)) $$ Hc
  iintro Hc4
  iapply Hk
  isplitl [HO]; · iexact HO
  unfold Dfly
  isplitl [Hp1]; · iexact Hp1
  isplitl [Hc2]; · iexact Hc2
  isplitl [Hc4]; · iexact Hc4
  isplitl [Hp2] <;> iassumption

theorem collect_one (k : Fin 32) :
    Step m Kn d iprop(ow d (Orem d 32 32) ∗ Ctok (F := F) d k) iprop(ow d (Orem d 32 32) ∗ Cfly d k) (collect d k) := by
  intro K Q
  unfold collect Ctok
  iintro ⟨#Hc, HO, Hc3, Hp3, HoX, Ht5, Hp5⟩ Hk
  iapply (st_recvX m Kn d k _ Q) $$ [HO Hc3 Hp3]
  · isplitr; · iexact Hc
    isplitl [HO]; · iexact HO
    isplitl [Hc3] <;> iassumption
  iintro ⟨HO, Hp3, Hxb⟩
  iapply (st_xStore m Kn d k K Q) $$ [Hxb HoX Ht5]
  · isplitr; · iexact Hc
    isplitl [Hxb]; · iexact Hxb
    isplitl [HoX]; · iexact HoX
    isplitl [Ht5]; · iexact Ht5
    iapply (ctx_reached m Kn d (k32 5 k)) $$ Hc
  iintro Hc5
  iapply Hk
  isplitl [HO]; · iexact HO
  unfold Cfly
  isplitl [Hp3]; · iexact Hp3
  isplitl [Hc5] <;> iassumption

theorem settle_one (k : Fin 32) :
    Step m Kn d iprop(ow d (Orem d 32 32) ∗ Dfly (F := F) d k ∗ Cfly d k) iprop(ow d (Orem d 32 32) ∗ Fin' m d k) (settle d k) := by
  intro K Q
  unfold settle Dfly Cfly
  iintro ⟨#Hc, HO, ⟨Hp1, Hc2, Hc4, Hp2, Hp4⟩, Hp3, Hc5, Hp5⟩ Hk
  iapply (st_sentX m Kn d k 32 32 _ Q) $$ [HO Hc2 Hp2]
  · isplitr; · iexact Hc
    isplitl [HO]; · iexact HO
    isplitl [Hc2] <;> iassumption
  iintro ⟨HO, Hp2, Hr⟩
  iapply (st_yStored m Kn d k 32 32 _ Q) $$ [HO Hc4 Hp4]
  · isplitr; · iexact Hc
    isplitl [HO]; · iexact HO
    isplitl [Hc4] <;> iassumption
  iintro ⟨HO, Hp4, HoY, Hl⟩
  iapply (st_xStored m Kn d k 32 32 K Q) $$ [HO Hc5 Hp5]
  · isplitr; · iexact Hc
    isplitl [HO]; · iexact HO
    isplitl [Hc5] <;> iassumption
  iintro ⟨HO, Hp5, HoX, Hxb⟩
  iapply Hk
  isplitl [HO]; · iexact HO
  unfold Fin'
  isplitl [Hp1]; · iexact Hp1
  isplitl [Hp2]; · iexact Hp2
  isplitl [Hp3]; · iexact Hp3
  isplitl [Hp4]; · iexact Hp4
  isplitl [Hp5]; · iexact Hp5
  isplitl [Hl Hr]
  · iexists (inY m d k)
    iapply (owns_halves (d : Thread nD τ) (yb k) fullShare (inY m d k)).2
    isplitl [Hl] <;> iassumption
  isplitl [Hxb]
  · iexists _; iexact Hxb
  isplitl [HoY] <;> iassumption

end Cert.KernelIdeal.Kx
-- ==== Proof.Body.lean ====
/- The kernel's whole body, from what a device is given at launch to what it holds at the end. -/
module

public import proofs.«01_k».proof.Proof.Loops

@[expose] public section

noncomputable section

namespace Cert.KernelIdeal.Kx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (Kn : Dev nD × Kd → ℕ) (d : Dev nD)

/-! ## The main loop -/

/-- The staging slots of the two kinds of load; what each load takes. -/
def roomY (s : Fin 2) : sProp 𝕄 := some' d (yst s)
def roomL (s : Fin 2) : sProp 𝕄 := some' d (lst s)
def tkY (k : Fin 32) : sProp 𝕄 := iprop(owns (d : Thread nD τ) (xY d k) qY (ldY m d k) ∗ tok d (k2 0 (par k)) (k.val / 2))
def tkL (k : Fin 32) : sProp 𝕄 := iprop(owns (d : Thread nD τ) (xL d k) qL (ldL m d k) ∗ tok d (k2 1 (par k)) (k.val / 2))

/-- Before turn `k` of the main loop. -/
def MI (k : ℕ) : sProp 𝕄 :=
  iprop(ow d (Orem d k (k - 1)) ∗ PI d 0 (roomY d) (tkY m d) k ∗ SI d k ∗ PI d 1 (roomL d) (tkL m d) k ∗ LI m d k
    ∗ Rg (k - 1) 32 (Dtok d) ∗ Rg 0 (k - 1) (Dfly d))

variable {m Kn d}

theorem startY (k : Fin 32) : Step m Kn d iprop(tkY m d k ∗ PFree d 0 (roomY d) k.val) (PCr d 0 k.val) (yStart d k) :=
  (st_yStart m Kn d k).pre (by
    unfold tkY PFree roomY
    iintro ⟨⟨H1, H2⟩, H3, H4⟩
    isplitl [H1]; · iexact H1
    isplitl [H3]; · iexact H3
    isplitl [H2] <;> iassumption)

theorem startL (k : Fin 32) : Step m Kn d iprop(tkL m d k ∗ PFree d 1 (roomL d) k.val) (PCr d 1 k.val) (lStart d k) :=
  (st_lStart m Kn d k).pre (by
    unfold tkL PFree roomL
    iintro ⟨⟨H1, H2⟩, H3, H4⟩
    isplitl [H1]; · iexact H1
    isplitl [H3]; · iexact H3
    isplitl [H2] <;> iassumption)

theorem drain_back (k : Fin 32) :
    Step m Kn d iprop(ow d (Orem d (k.val + 1) (k.val - 1)) ∗ Rg (k.val - 1) 32 (Dtok (F := F) d) ∗ Rg 0 (k.val - 1) (Dfly d))
      iprop(ow d (Orem d (k.val + 1) k.val) ∗ Rg k.val 32 (Dtok d) ∗ Rg 0 k.val (Dfly d)) (onBack 1 k (drain d)) := by
  have hlt := k.isLt
  refine Step.onBack 1 k (drain d) (fun hk => ?_) (fun hk => ?_)
  · intro K Q
    have e : (⟨k.val - 1, Nat.lt_of_le_of_lt (Nat.sub_le _ _) hlt⟩ : Fin 32).val + 1 = k.val := by show k.val - 1 + 1 = _; omega
    have e1 := Rg_take ⟨k.val - 1, Nat.lt_of_le_of_lt (Nat.sub_le _ _) hlt⟩ 32 (by show k.val - 1 < _; omega) (Dtok (F := F) d)
    have e2 := Rg_put 0 ⟨k.val - 1, Nat.lt_of_le_of_lt (Nat.sub_le _ _) hlt⟩ (Nat.zero_le _) (Dfly (F := F) d)
    have h := drain_one (m := m) (Kn := Kn) (d := d) ⟨k.val - 1, Nat.lt_of_le_of_lt (Nat.sub_le _ _) hlt⟩ (k.val + 1) (by show k.val - 1 < _; omega) K Q
    rw [e] at e1 e2 h
    rw [e1, e2]
    iintro ⟨#Hc, HO, ⟨H1, H2⟩, H3⟩ Hk
    iapply h $$ [HO H1]
    · isplitr; · iexact Hc
      isplitl [HO] <;> iassumption
    iintro ⟨HO, H1⟩
    iapply Hk
    isplitl [HO]; · iexact HO
    isplitl [H2]; · iexact H2
    isplitl [H1] <;> iassumption
  · rw [show k.val - 1 = k.val by omega]

set_option maxHeartbeats 1000000 in
theorem turn (k : Fin 32) : Step m Kn d (MI m d k.val) (MI m d (k.val + 1)) (chunk d k) := by
  intro K Q
  unfold MI chunk
  rw [Nat.add_sub_cancel]
  iintro ⟨#Hc, HO, HY, HS, HL, HB, HD, HD'⟩ Hk
  iapply (pair_start k (yStart d) (startY (m := m) (Kn := Kn) (d := d)) _ Q) $$ [HY]
  · isplitr; · iexact Hc
    iexact HY
  iintro HY
  iapply (pair_wait (tk := tkY m d) (full := fun k => own' d (yst (par k)) (ldY m d k)) k _ (yWait d k) (st_yWait m Kn d k k.val (k.val - 1)) _ Q) $$ [HO HY]
  · isplitr; · iexact Hc
    isplitl [HO] <;> iassumption
  iintro ⟨HO, HY, Hst⟩
  iapply (send_free (m := m) (Kn := Kn) (d := d) k k.val (k.val - 1) _ Q) $$ [HO HS]
  · isplitr; · iexact Hc
    isplitl [HO] <;> iassumption
  iintro ⟨HO, HS, Hsl⟩
  iapply (st_yCast (m := m) (Kn := Kn) (d := d) k (ldY m d k) _ Q) $$ [Hst Hsl]
  · isplitr; · iexact Hc
    isplitl [Hst] <;> iassumption
  iintro ⟨Hst, Hsl⟩
  ihave HY := (pair_back (d := d) (a := 0) (room := roomY d) (tk := tkY m d) k) $$ [HY Hst]
  · isplitl [HY]; · iexact HY
    unfold roomY; iexists _; iexact Hst
  iapply (send_go (m := m) (Kn := Kn) (d := d) k (k.val - 1) _ Q) $$ [HO HS Hsl]
  · isplitr; · iexact Hc
    isplitl [HO]; · iexact HO
    isplitl [HS]; · iexact HS
    unfold chY; iexact Hsl
  iintro ⟨HO, HS⟩
  iapply (pair_start k (lStart d) (startL (m := m) (Kn := Kn) (d := d)) _ Q) $$ [HL]
  · isplitr; · iexact Hc
    iexact HL
  iintro HL
  iapply (pair_wait (tk := tkL m d) (full := fun k => own' d (lst (par k)) (ldL m d k)) k _ (lWait d k) (st_lWait m Kn d k (k.val + 1) (k.val - 1)) _ Q) $$ [HO HL]
  · isplitr; · iexact Hc
    isplitl [HO] <;> iassumption
  iintro ⟨HO, HL, Hst⟩
  iapply (loc_free (m := m) (Kn := Kn) (d := d) k (k.val + 1) (k.val - 1) _ Q) $$ [HO HB]
  · isplitr; · iexact Hc
    isplitl [HO] <;> iassumption
  unfold LFree
  iintro ⟨HO, HB, Hsl, Hr⟩
  iapply (st_lCast (m := m) (Kn := Kn) (d := d) k (ldL m d k) _ Q) $$ [Hst Hsl]
  · isplitr; · iexact Hc
    isplitl [Hst] <;> iassumption
  iintro ⟨Hst, Hsl⟩
  ihave HL := (pair_back (d := d) (a := 1) (room := roomL d) (tk := tkL m d) k) $$ [HL Hst]
  · isplitl [HL]; · iexact HL
    unfold roomL; iexists _; iexact Hst
  iapply (loc_go (m := m) (Kn := Kn) (d := d) k _ Q) $$ [HB Hsl Hr]
  · isplitr; · iexact Hc
    isplitl [HB]; · iexact HB
    isplitl [Hsl]
    · unfold chL; iexact Hsl
    · iexact Hr
  iintro HB
  iapply (drain_back (m := m) (Kn := Kn) (d := d) k K Q) $$ [HO HD HD']
  · isplitr; · iexact Hc
    isplitl [HO]; · iexact HO
    isplitl [HD] <;> iassumption
  iintro ⟨HO, HD, HD'⟩
  iapply Hk
  isplitl [HO]; · iexact HO
  isplitl [HY]; · iexact HY
  isplitl [HS]; · iexact HS
  isplitl [HL]; · iexact HL
  isplitl [HB]; · iexact HB
  isplitl [HD] <;> iassumption

/-! ## The later loops -/

def CI (k : ℕ) : sProp 𝕄 := iprop(ow d (Orem d 32 32) ∗ Rg k 32 (Ctok d) ∗ Rg 0 k (Cfly d))
def EI (m : (ℓ : Loc nD τ sig) → Buf (Elt F) ℓ) (d : Dev nD) (k : ℕ) : sProp 𝕄 :=
  iprop(ow d (Orem d 32 32) ∗ Rg k 32 (Dfly d) ∗ Rg k 32 (Cfly d) ∗ Rg 0 k (Fin' m d))

theorem collect_turn (k : Fin 32) : Step m Kn d (CI (F := F) (d := d) k.val) (CI (d := d) (k.val + 1)) (collect d k) := by
  intro K Q
  unfold CI
  rw [Rg_take k 32 k.isLt, Rg_put 0 k (Nat.zero_le _)]
  iintro ⟨#Hc, HO, ⟨H1, H2⟩, H3⟩ Hk
  iapply (collect_one (m := m) (Kn := Kn) (d := d) k K Q) $$ [HO H1]
  · isplitr; · iexact Hc
    isplitl [HO] <;> iassumption
  iintro ⟨HO, H1⟩
  iapply Hk
  isplitl [HO]; · iexact HO
  isplitl [H2]; · iexact H2
  isplitl [H1] <;> iassumption

theorem settle_turn (k : Fin 32) : Step m Kn d (EI m d k.val) (EI m d (k.val + 1)) (settle d k) := by
  intro K Q
  unfold EI
  rw [Rg_take k 32 k.isLt (Dfly d), Rg_take k 32 k.isLt (Cfly d), Rg_put 0 k (Nat.zero_le _)]
  iintro ⟨#Hc, HO, ⟨H1, H2⟩, ⟨H3, H4⟩, H5⟩ Hk
  iapply (settle_one (m := m) (Kn := Kn) (d := d) k K Q) $$ [HO H1 H3]
  · isplitr; · iexact Hc
    isplitl [HO]; · iexact HO
    isplitl [H1] <;> iassumption
  iintro ⟨HO, H1⟩
  iapply Hk
  isplitl [HO]; · iexact HO
  isplitl [H2]; · iexact H2
  isplitl [H4]; · iexact H4
  isplitl [H1] <;> iassumption

theorem send_turn (k : Fin 32) (hk : 16 ≤ k.val) :
    Step m Kn d iprop(ow d (Orem d 32 32) ∗ SE (F := F) (d := d) k.val) iprop(ow d (Orem d 32 32) ∗ SE (d := d) (k.val + 1)) (sentY k) :=
  send_end k hk

theorem drain_last :
    Step m Kn d iprop(ow d (Orem d 32 31) ∗ Rg 31 32 (Dtok (F := F) d) ∗ Rg 0 31 (Dfly d)) iprop(ow d (Orem d 32 32) ∗ Rg 0 32 (Dfly d)) (drain d 31) := by
  intro K Q
  have e1 := Rg_take (31 : Fin 32) 32 (by decide) (Dtok (F := F) d)
  have e2 := Rg_put 0 (31 : Fin 32) (Nat.zero_le _) (Dfly (F := F) d)
  have h := drain_one (m := m) (Kn := Kn) (d := d) (31 : Fin 32) 32 (by decide) K Q
  rw [show ((31 : Fin 32).val) = 31 from rfl] at e1 e2 h
  rw [e1, e2]
  iintro ⟨#Hc, HO, ⟨H1, -⟩, H3⟩ Hk
  iapply h $$ [HO H1]
  · isplitr; · iexact Hc
    isplitl [HO] <;> iassumption
  iintro ⟨HO, H1⟩
  iapply Hk
  isplitl [HO]; · iexact HO
  isplitl [H1] <;> iassumption

theorem stores_last :
    Step m Kn d iprop(ow d (Orem d 32 32) ∗ LI m d 32)
      iprop(ow d (Orem d 32 32) ∗ LFree d 32 ∗ LFree d 33 ∗ PPos d 2 32 ∗ PPos d 2 33 ∗ Rg 0 32 (Ldone m d))
      (fun K => lStored d 30 <| lStored d 31 K) := by
  intro K Q
  have e1 := Rg_take (30 : Fin 32) 32 (by decide) (Lfly (F := F) d)
  have e2 := Rg_take (31 : Fin 32) 32 (by decide) (Lfly (F := F) d)
  have e3 := Rg_put 0 (30 : Fin 32) (Nat.zero_le _) (Ldone m d)
  have e4 := Rg_put 0 (31 : Fin 32) (Nat.zero_le _) (Ldone m d)
  have h1 := st_lDone (m := m) (Kn := Kn) (d := d) (30 : Fin 32) 32 32 (lStored d 31 K) Q
  have h2 := st_lDone (m := m) (Kn := Kn) (d := d) (31 : Fin 32) 32 32 K Q
  rw [show ((30 : Fin 32).val) = 30 from rfl] at e1 e3 h1
  rw [show ((31 : Fin 32).val) = 31 from rfl] at e2 e4 h2
  unfold LI
  rw [e4, e3, show 32 - 2 = 30 from rfl, e1, e2]
  iintro ⟨#Hc, HO, -, ⟨Hf, Hf', -⟩, Hd, -, Hp, Hp'⟩ Hk
  iapply h1 $$ [HO Hf Hp]
  · isplitr; · iexact Hc
    isplitl [HO]; · iexact HO
    isplitl [Hf] <;> iassumption
  iintro ⟨HO, Hp, Hb, Hd0⟩
  iapply h2 $$ [HO Hf' Hp']
  · isplitr; · iexact Hc
    isplitl [HO]; · iexact HO
    isplitl [Hf'] <;> iassumption
  iintro ⟨HO, Hp', Hb', Hd1⟩
  iapply Hk
  isplitl [HO]; · iexact HO
  isplitl [Hb]; · iexact Hb
  isplitl [Hb']; · iexact Hb'
  isplitl [Hp]; · iexact Hp
  isplitl [Hp']; · iexact Hp'
  isplitl [Hd1]; · iexact Hd1
  isplitl [Hd0] <;> iassumption

/-! ## The whole -/

/-- The tokens, credits and places of a chunk's copies, without the slots they land in. -/
def StokA (d : Dev nD) (k : Fin 32) : sProp 𝕄 := iprop(tok d (k32 0 k) 0 ∗ tok (peerY d) (k32 1 k) 0 ∗ pos d (k32 0 k) 0)
def DtokA (d : Dev nD) (k : Fin 32) : sProp 𝕄 :=
  iprop(crd d (k32 1 k) ∗ pos d (k32 1 k) 0 ∗ tok d (k32 2 k) 0 ∗ tok (peerX d) (k32 3 k) 0
    ∗ some' d (oY d k) ∗ tok d (k32 4 k) 0 ∗ pos d (k32 2 k) 0 ∗ pos d (k32 4 k) 0)

/-- Each kind of staging slot, both of them. -/
def rooms (d : Dev nD) : sProp 𝕄 :=
  iprop((roomY d 0 ∗ roomY d 1) ∗ (roomL d 0 ∗ roomL d 1) ∗ (some' d (lb 0) ∗ some' d (lb 1))
    ∗ bigSep Finset.univ (fun s : Fin 16 => some' (F := F) d (snd s)))

/-- The places in the six cells used in many rounds. -/
def six (d : Dev nD) (r : ℕ) : sProp 𝕄 :=
  iprop(pos d (k2 0 0) r ∗ pos d (k2 0 1) r ∗ pos d (k2 1 0) r ∗ pos d (k2 1 1) r ∗ pos d (k2 2 0) r ∗ pos d (k2 2 1) r)

/-- What a device starts from. -/
def bodyIn (m : (ℓ : Loc nD τ sig) → Buf (Elt F) ℓ) (d : Dev nD) : sProp 𝕄 :=
  iprop(ow d (O₀ d) ∗ dutyTok ER (cell (peerY d) none) 0 false ∗ dutyTok ER (cell (peerX d) none) 0 true
    ∗ cred (tallyAt (cell d none) () 2) ∗ pos d none 0
    ∗ bigSep Finset.univ (fun k : Fin 32 => some' (F := F) d (yb k)) ∗ bigSep Finset.univ (fun k : Fin 32 => some' (F := F) d (xb k))
    ∗ rooms d ∗ six d 0
    ∗ bigSep Finset.univ (tkY m d) ∗ bigSep Finset.univ (tkL m d) ∗ bigSep Finset.univ (Ltok d)
    ∗ bigSep Finset.univ (StokA d) ∗ bigSep Finset.univ (DtokA d) ∗ bigSep Finset.univ (Ctok d))

/-- What it ends with. -/
def bodyOut (m : (ℓ : Loc nD τ sig) → Buf (Elt F) ℓ) (d : Dev nD) : sProp 𝕄 :=
  iprop(ow d 0 ∗ pos d none 1 ∗ rooms d ∗ six d 16 ∗ bigSep Finset.univ (Sdone d) ∗ bigSep Finset.univ (Ldone m d) ∗ bigSep Finset.univ (Fin' m d))

theorem Rg_slots (c : ℕ) (hc : c = 0 ∨ c = 16) (Φ : Fin 16 → SP F) :
    Rg c (c + 16) (fun k => Φ (slot k)) = bigSep Finset.univ Φ := by
  have h : Finset.Ico c (c + 16) = (Finset.univ : Finset (Fin 16)).map ⟨fun i => c + i.val, fun i j h => Fin.ext (by simpa using h)⟩ := by
    ext x
    simp only [Finset.mem_Ico, Finset.mem_map, Finset.mem_univ, true_and, Function.Embedding.coeFn_mk]
    exact ⟨fun h => ⟨⟨x - c, by omega⟩, by show c + (x - c) = x; omega⟩, fun ⟨y, hy⟩ => by have := y.isLt; have h' : c + y.val = x := hy; omega⟩
  unfold Rg
  rw [h, bigSep_map]
  refine bigSep_congr fun i _ => congrArg Φ (Fin.ext ?_)
  have := i.isLt
  show (c + i.val) % 32 % 16 = i.val
  rcases hc with rfl | rfl <;> omega

/-- The barrier, both partners told. -/
theorem meet : Step m Kn d
    iprop(ow d (O₀ d) ∗ dutyTok ER (cell (peerY d) none) 0 false ∗ dutyTok ER (cell (peerX d) none) 0 true
      ∗ cred (tallyAt (cell d none) () 2) ∗ pos d none 0
      ∗ bigSep Finset.univ (fun k : Fin 32 => some' (F := F) d (yb k)) ∗ bigSep Finset.univ (fun k : Fin 32 => some' (F := F) d (xb k)))
    iprop(ow d (Orem d 0 0) ∗ pos d none 1 ∗ bigSep Finset.univ (fun k : Fin 32 => some' (F := F) (peerY d) (yb k))
      ∗ bigSep Finset.univ (fun k : Fin 32 => some' (F := F) (peerX d) (xb k)))
    (fun K => sigY d <| sigX d <| barWait K) := by
  intro K Q
  iintro ⟨#Hc, HO, Ht, Ht', Hcr, Hp, Hy, Hx⟩ Hk
  iapply (do_signal (m := m) (Kn := Kn) (d := d) (peerY d) false (O₀ d) (O₁ d) rfl _ Q) $$ [HO Ht Hy]
  · isplitr; · iexact Hc
    isplitl [HO]; · iexact HO
    isplitl [Ht]; · iexact Ht
    unfold payB; rw [peerY_peerY]; iexact Hy
  iintro HO
  iapply (do_signal (m := m) (Kn := Kn) (d := d) (peerX d) true (O₁ d) (Orem d 0 0) rfl _ Q) $$ [HO Ht' Hx]
  · isplitr; · iexact Hc
    isplitl [HO]; · iexact HO
    isplitl [Ht']; · iexact Ht'
    unfold payB; rw [peerX_peerX]; iexact Hx
  iintro HO
  iapply (do_barWait (m := m) (Kn := Kn) (d := d) (Orem d 0 0) (mayWait_local d none (by exact Nat.le_refl 1) 0 0) K Q) $$ [HO Hcr Hp]
  · isplitr; · iexact Hc
    isplitl [HO]; · iexact HO
    isplitl [Hcr] <;> iassumption
  unfold payB
  iintro ⟨HO, Hp, Hy, Hx⟩
  iapply Hk
  isplitl [HO]; · iexact HO
  isplitl [Hp]; · iexact Hp
  isplitl [Hy] <;> iassumption

/-- The first two loads. -/
theorem begin : Step m Kn d
    iprop((roomY d 0 ∗ roomY d 1) ∗ (roomL d 0 ∗ roomL d 1) ∗ pos d (k2 0 0) 0 ∗ pos d (k2 0 1) 0 ∗ pos d (k2 1 0) 0 ∗ pos d (k2 1 1) 0
      ∗ bigSep Finset.univ (tkY m d) ∗ bigSep Finset.univ (tkL m d))
    iprop(PI d 0 (roomY d) (tkY m d) 0 ∗ PI d 1 (roomL d) (tkL m d) 0)
    (fun K => yStart d 0 <| lStart d 0 K) := by
  intro K Q
  have eY := (Rg_all (tkY m d)).symm.trans (Rg_take (0 : Fin 32) 32 (by decide) (tkY m d))
  have eL := (Rg_all (tkL m d)).symm.trans (Rg_take (0 : Fin 32) 32 (by decide) (tkL m d))
  rw [eY, eL]
  iintro ⟨#Hc, ⟨HY0, HY1⟩, ⟨HL0, HL1⟩, Hp0, Hp1, Hq0, Hq1, ⟨HtY, HY⟩, ⟨HtL, HL⟩⟩ Hk
  iapply (startY (m := m) (Kn := Kn) (d := d) (0 : Fin 32) _ Q) $$ [HY0 HtY]
  · isplitr; · iexact Hc
    isplitl [HtY]; · iexact HtY
    unfold PFree
    isplitl [HY0]; · iexact HY0
    iapply (ctx_reached m Kn d (k2 0 0)) $$ Hc
  iintro HcY
  iapply (startL (m := m) (Kn := Kn) (d := d) (0 : Fin 32) _ Q) $$ [HL0 HtL]
  · isplitr; · iexact Hc
    isplitl [HtL]; · iexact HtL
    unfold PFree
    isplitl [HL0]; · iexact HL0
    iapply (ctx_reached m Kn d (k2 1 0)) $$ Hc
  iintro HcL
  iapply Hk
  have hp : ∀ a : Fin 3, PPos (F := F) d a 0 = pos d (k2 a 0) 0 := fun _ => rfl
  have hp' : ∀ a : Fin 3, PPos (F := F) d a (0 + 1) = pos d (k2 a 1) 0 := fun _ => rfl
  have hY : PFl (F := F) d 0 (roomY d) 0 = PCr d 0 (0 : Fin 32).val := if_pos (by decide)
  have hL : PFl (F := F) d 1 (roomL d) 0 = PCr d 1 (0 : Fin 32).val := if_pos (by decide)
  unfold PI
  rw [hp, hp, hp', hp', hY, hL]
  isplitl [HcY HY1 HY Hp0 Hp1]
  · isplitl [HcY]; · iexact HcY
    isplitl [HY1]
    · unfold PFree
      isplitl [HY1]; · iexact HY1
      iapply (ctx_reached m Kn d (k2 0 1)) $$ Hc
    isplitl [HY]; · iexact HY
    isplitl [Hp0] <;> iassumption
  · isplitl [HcL]; · iexact HcL
    isplitl [HL1]
    · unfold PFree
      isplitl [HL1]; · iexact HL1
      iapply (ctx_reached m Kn d (k2 1 1)) $$ Hc
    isplitl [HL]; · iexact HL
    isplitl [Hq0] <;> iassumption

/-- Two assertions that imply each other are one. -/
theorem same {P Q : SP F} (h : P ⊢ Q) (h' : Q ⊢ P) : P = Q := equiv_iff.mp ⟨h, h'⟩

/-- From the first loads to the last arrivals. -/
theorem body_rest (Q : PUnit → sProp 𝕄) :
    iprop(ctx m Kn ∗ bodyIn m d) ⊢ iprop((bodyOut m d -∗ WP d (.ret ⟨⟩) Q) -∗ WP d (rest d) Q) := by
  have hS : Rg 0 16 (Ssl (F := F) d) = bigSep Finset.univ (fun s : Fin 16 => some' (F := F) d (snd s)) :=
    Rg_slots 0 (.inl rfl) fun s => some' (F := F) d (snd s)
  have hS' : Rg 16 32 (Ssl (F := F) d) = bigSep Finset.univ (fun s : Fin 16 => some' (F := F) d (snd s)) :=
    Rg_slots 16 (.inr rfl) fun s => some' (F := F) d (snd s)
  have hB : Rg 0 2 (LBf (F := F) d) = iprop(LFree d 0 ∗ LFree d 1) := by
    have a : Rg 0 2 (LBf (F := F) d) = iprop(LFree d 0 ∗ Rg 1 2 (LBf d)) := Rg_take (0 : Fin 32) 2 (by decide) _
    have b : Rg 1 2 (LBf (F := F) d) = iprop(LFree d 1 ∗ Rg 2 2 (LBf d)) := Rg_take (1 : Fin 32) 2 (by decide) _
    rw [a, b, Rg_nil 2 2 le_rfl]
    exact congrArg (fun R => iprop(LFree d 0 ∗ R)) (equiv_iff.mp sep_emp)
  have hSt : bigSep Finset.univ (Stok (F := F) d)
      = iprop(bigSep Finset.univ (StokA d) ∗ bigSep Finset.univ (fun k : Fin 32 => some' (F := F) (peerY d) (yb k))) := by
    rw [← bigSep_sep']
    refine bigSep_congr fun k _ => ?_
    unfold Stok StokA
    refine same ?_ ?_
    · iintro ⟨H1, H2, H3, H4⟩
      isplitr [H3]
      · isplitl [H1]; · iexact H1
        isplitl [H2] <;> iassumption
      · iexact H3
    · iintro ⟨⟨H1, H2, H4⟩, H3⟩
      isplitl [H1]; · iexact H1
      isplitl [H2]; · iexact H2
      isplitl [H3] <;> iassumption
  have hDt : bigSep Finset.univ (Dtok (F := F) d)
      = iprop(bigSep Finset.univ (DtokA d) ∗ bigSep Finset.univ (fun k : Fin 32 => some' (F := F) (peerX d) (xb k))) := by
    rw [← bigSep_sep']
    refine bigSep_congr fun k _ => ?_
    unfold Dtok DtokA
    refine same ?_ ?_
    · iintro ⟨H1, H2, H3, H4⟩
      isplitr [H3]
      · isplitl [H1]; · iexact H1
        isplitl [H2] <;> iassumption
      · iexact H3
    · iintro ⟨⟨H1, H2, H4⟩, H3⟩
      isplitl [H1]; · iexact H1
      isplitl [H2]; · iexact H2
      isplitl [H3] <;> iassumption
  have hp : PPos (F := F) d 2 0 = pos d (k2 2 0) 0 := rfl
  have hp' : PPos (F := F) d 2 1 = pos d (k2 2 1) 0 := rfl
  have hq : ∀ a : Fin 3, PPos (F := F) d a 32 = pos d (k2 a 0) 16 := fun _ => rfl
  have hq' : ∀ a : Fin 3, PPos (F := F) d a 33 = pos d (k2 a 1) 16 := fun _ => rfl
  have hl : ∀ (a : Fin 3) (room : Fin 2 → SP F), PFl d a room 32 = PFree d a room 32 := fun _ _ => if_neg (by decide)
  have hf : ∀ (a : Fin 3) (room : Fin 2 → SP F), PFree d a room 32 = iprop(room 0 ∗ rch d (k2 a 0) 16) := fun _ _ => rfl
  have hf' : ∀ (a : Fin 3) (room : Fin 2 → SP F), PFree d a room 33 = iprop(room 1 ∗ rch d (k2 a 1) 16) := fun _ _ => rfl
  have hg : LFree (F := F) d 32 = iprop(some' d (lb 0) ∗ rch d (k2 2 0) 16) := rfl
  have hg' : LFree (F := F) d 33 = iprop(some' d (lb 1) ∗ rch d (k2 2 1) 16) := rfl
  have hg0 : LFree (F := F) d 0 = iprop(some' d (lb 0) ∗ rch d (k2 2 0) 0) := rfl
  have hg1 : LFree (F := F) d 1 = iprop(some' d (lb 1) ∗ rch d (k2 2 1) 0) := rfl
  have hM : MI m d (32 - 32) = iprop(ow d (Orem d 0 0) ∗ PI d 0 (roomY d) (tkY m d) 0
      ∗ (bigSep Finset.univ (fun s : Fin 16 => some' (F := F) d (snd s)) ∗ emp ∗ emp
        ∗ bigSep Finset.univ (StokA d) ∗ bigSep Finset.univ (fun k : Fin 32 => some' (F := F) (peerY d) (yb k)))
      ∗ PI d 1 (roomL d) (tkL m d) 0
      ∗ ((LFree d 0 ∗ LFree d 1) ∗ emp ∗ emp ∗ bigSep Finset.univ (Ltok d) ∗ pos d (k2 2 0) 0 ∗ pos d (k2 2 1) 0)
      ∗ (bigSep Finset.univ (DtokA d) ∗ bigSep Finset.univ (fun k : Fin 32 => some' (F := F) (peerX d) (xb k))) ∗ emp) := by
    unfold MI SI LI
    simp only [Nat.sub_self, Nat.zero_sub, Nat.zero_add]
    rw [hS, hB, Rg_all (Stok d), hSt, Rg_all (Dtok d), hDt, Rg_all (Ltok d), hp, hp', Rg_nil 0 0 le_rfl, Rg_nil 0 0 le_rfl, Rg_nil 0 0 le_rfl, Rg_nil 0 0 le_rfl, Rg_nil 0 0 le_rfl]
  unfold bodyIn rooms six rest
  iintro ⟨#Hc, HO, Ht, Ht', Hcr, Hp, Hy, Hx, ⟨HrY, HrL, ⟨Hb0, Hb1⟩, Hsn⟩, ⟨P00, P01, P10, P11, P20, P21⟩, HtY, HtL, HLt, HSt, HDt, HCt⟩ Hk
  iapply (meet (m := m) (Kn := Kn) (d := d) _ Q) $$ [HO Ht Ht' Hcr Hp Hy Hx]
  · isplitr; · iexact Hc
    isplitl [HO]; · iexact HO
    isplitl [Ht]; · iexact Ht
    isplitl [Ht']; · iexact Ht'
    isplitl [Hcr]; · iexact Hcr
    isplitl [Hp]; · iexact Hp
    isplitl [Hy] <;> iassumption
  iintro ⟨HO, Hp, Hy, Hx⟩
  iapply (begin (m := m) (Kn := Kn) (d := d) _ Q) $$ [HrY HrL P00 P01 P10 P11 HtY HtL]
  · isplitr; · iexact Hc
    isplitl [HrY]; · iexact HrY
    isplitl [HrL]; · iexact HrL
    isplitl [P00]; · iexact P00
    isplitl [P01]; · iexact P01
    isplitl [P10]; · iexact P10
    isplitl [P11]; · iexact P11
    isplitl [HtY] <;> iassumption
  iintro ⟨HY, HL⟩
  iapply (Step.iter (m := m) (Kn := Kn) (d := d) (MI m d) (chunk d) turn 32 _ _ Q) $$ [HO HY HL Hsn Hb0 Hb1 P20 P21 HLt HSt HDt Hy Hx]
  · isplitr; · iexact Hc
    rw [hM, hg0, hg1]
    isplitl [HO]; · iexact HO
    isplitl [HY]; · iexact HY
    isplitl [Hsn HSt Hy]
    · isplitl [Hsn]; · iexact Hsn
      isplitr; · iempintro
      isplitr; · iempintro
      isplitl [HSt] <;> iassumption
    isplitl [HL]; · iexact HL
    isplitl [Hb0 Hb1 HLt P20 P21]
    · isplitl [Hb0 Hb1]
      · isplitl [Hb0]
        · isplitl [Hb0]; · iexact Hb0
          iapply (ctx_reached m Kn d (k2 2 0)) $$ Hc
        · isplitl [Hb1]; · iexact Hb1
          iapply (ctx_reached m Kn d (k2 2 1)) $$ Hc
      isplitr; · iempintro
      isplitr; · iempintro
      isplitl [HLt]; · iexact HLt
      isplitl [P20] <;> iassumption
    isplitl [HDt Hx]
    · isplitl [HDt] <;> iassumption
    iempintro
  have hM' : MI m d 32 = iprop(ow d (Orem d 32 31) ∗ PI d 0 (roomY d) (tkY m d) 32 ∗ SI d 32 ∗ PI d 1 (roomL d) (tkL m d) 32 ∗ LI m d 32
    ∗ Rg 31 32 (Dtok d) ∗ Rg 0 31 (Dfly d)) := rfl
  have hPI : ∀ (a : Fin 3) (room : Fin 2 → SP F) (tk : Fin 32 → SP F), PI d a room tk 32
      = iprop((room 0 ∗ rch d (k2 a 0) 16) ∗ (room 1 ∗ rch d (k2 a 1) 16) ∗ Rg 33 32 tk ∗ pos d (k2 a 0) 16 ∗ pos d (k2 a 1) 16) := by
    intro a room tk
    rw [← hq a, ← hq' a, ← hf a room, ← hf' a room, ← hl a room]
    rfl
  have hSI : SI (F := F) d 32 = iprop(Rg 32 16 (Ssl d) ∗ Rg 16 32 (Sfly d) ∗ Rg 0 16 (Sdone d) ∗ Rg 32 32 (Stok d)) := rfl
  rw [hM', hPI, hPI, hSI]
  iintro ⟨HO, ⟨⟨HY0, -⟩, ⟨HY1, -⟩, -, P00, P01⟩, ⟨-, Hfly, Hdn, -⟩, ⟨⟨HL0, -⟩, ⟨HL1, -⟩, -, P10, P11⟩, HLI, HD, HD'⟩
  iapply (drain_last (m := m) (Kn := Kn) (d := d) _ Q) $$ [HO HD HD']
  · isplitr; · iexact Hc
    isplitl [HO]; · iexact HO
    isplitl [HD] <;> iassumption
  iintro ⟨HO, HD⟩
  iapply (Step.iter (m := m) (Kn := Kn) (d := d) (CI (d := d)) (collect d) collect_turn 32 _ _ Q) $$ [HO HCt]
  · isplitr; · iexact Hc
    unfold CI
    rw [Nat.sub_self, Rg_all (Ctok d), Rg_nil 0 0 le_rfl]
    isplitl [HO]; · iexact HO
    isplitl [HCt]; · iexact HCt
    iempintro
  unfold CI
  iintro ⟨HO, -, HC⟩
  iapply (Step.iter_from (m := m) (Kn := Kn) (d := d) 16 (fun k => iprop(ow d (Orem d 32 32) ∗ SE (F := F) (d := d) k)) sentY send_turn 16 _ (by decide) _ Q) $$ [HO Hfly Hdn]
  · isplitr; · iexact Hc
    isplitl [HO]; · iexact HO
    have e : SE (F := F) (d := d) (32 - 16) = iprop(Rg 16 32 (Sfly d) ∗ Rg 0 16 (Sdone d) ∗ Rg 16 16 (Ssl d)) := rfl
    rw [e, Rg_nil 16 16 le_rfl]
    isplitl [Hfly]; · iexact Hfly
    isplitl [Hdn]; · iexact Hdn
    iempintro
  unfold SE
  rw [hS', Rg_all (Sdone d)]
  iintro ⟨HO, -, Hdn, Hsn⟩
  iapply (Step.iter (m := m) (Kn := Kn) (d := d) (EI m d) (settle d) settle_turn 32 _ _ Q) $$ [HO HD HC]
  · isplitr; · iexact Hc
    unfold EI
    rw [Nat.sub_self, Rg_nil 0 0 le_rfl]
    isplitl [HO]; · iexact HO
    isplitl [HD]; · iexact HD
    isplitl [HC]; · iexact HC
    iempintro
  unfold EI
  rw [Rg_all (Fin' m d)]
  iintro ⟨HO, -, -, HF⟩
  iapply (stores_last (m := m) (Kn := Kn) (d := d) _ Q) $$ [HO HLI]
  · isplitr; · iexact Hc
    isplitl [HO] <;> iassumption
  rw [hg, hg', hq, hq', Rg_all (Ldone m d), Orem_end d 32 32 le_rfl le_rfl]
  iintro ⟨HO, ⟨Hb0, -⟩, ⟨Hb1, -⟩, P20, P21, HLd⟩
  iapply Hk
  unfold bodyOut rooms six
  isplitl [HO]; · iexact HO
  isplitl [Hp]; · iexact Hp
  isplitl [HY0 HY1 HL0 HL1 Hb0 Hb1 Hsn]
  · isplitl [HY0 HY1]; · isplitl [HY0] <;> iassumption
    isplitl [HL0 HL1]; · isplitl [HL0] <;> iassumption
    isplitl [Hb0 Hb1]; · isplitl [Hb0] <;> iassumption
    iexact Hsn
  isplitl [P00 P01 P10 P11 P20 P21]
  · isplitl [P00]; · iexact P00
    isplitl [P01]; · iexact P01
    isplitl [P10]; · iexact P10
    isplitl [P11]; · iexact P11
    isplitl [P20] <;> iassumption
  isplitl [Hdn]; · iexact Hdn
  isplitl [HLd] <;> iassumption

end Cert.KernelIdeal.Kx
-- ==== Proof.Slots.lean ====
/- The buffers cut into the pieces the copies work on, and put together again. -/
module

public import proofs.«01_k».proof.Proof.Body

@[expose] public section

noncomputable section

namespace Cert.KernelIdeal.Kx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (d : Dev nD)

/-! ## A piece and its view -/

/-- A piece held at some contents is its view owned at what it reads there; -/
theorem piece_owns {sp : Space} {s : Shape} {e : EltTy} (v : Memref sig .tc sp s e) (q : PosShare TreeShare)
    (f : Buf (Elt F) (v.view.loc (d : Thread nD τ))) :
    ((v.view.loc (d : Thread nD τ)) ↦[v.view.set]{q} f : sProp 𝕄) ⊢ owns (d : Thread nD τ) v q (v.view.read (Elt F) f) := by
  unfold owns
  iintro H
  iexists f
  isplitr; · (ipureintro; rfl)
  iexact H

theorem piece_some {sp : Space} {s : Shape} {e : EltTy} (v : Memref sig .tc sp s e) (f : Buf (Elt F) (v.view.loc (d : Thread nD τ))) :
    ((v.view.loc (d : Thread nD τ)) ↦[v.view.set]{fullShare} f : sProp 𝕄) ⊢ some' d v := by
  iintro H
  iexists (v.view.read (Elt F) f)
  iapply (piece_owns d v fullShare f) $$ H

/-- and a view owned at some contents is its piece held at some. -/
theorem some_piece {sp : Space} {s : Shape} {e : EltTy} (v : Memref sig .tc sp s e) :
    (some' d v : sProp 𝕄) ⊢ iprop(∃ f : Buf (Elt F) (v.view.loc (d : Thread nD τ)), (v.view.loc (d : Thread nD τ)) ↦[v.view.set]{fullShare} f) := by
  unfold some' owns
  iintro ⟨%X, %f, -, H⟩
  iexists f
  iexact H

section Pieces
variable {ℓ : Loc nD τ sig} {ι : Type} [Fintype ι] [DecidableEq ι] (I : ι → Finset (Idx ℓ))
  (hd : ∀ i j, i ≠ j → Disjoint (I i) (I j)) (hc : Finset.univ.biUnion I = Finset.univ) (f₀ : Buf (Elt F) ℓ)

include hd hc in
theorem cut_some (Φ : ι → SP F) (h : ∀ i f, (ℓ ↦[I i]{fullShare} f : sProp 𝕄) ⊢ Φ i) :
    iprop(∃ f, ℓ ↦{fullShare} f) ⊢ bigSep Finset.univ Φ := by
  iintro ⟨%f, H⟩
  iapply (show (ℓ ↦{fullShare} f : sProp 𝕄) ⊢ bigSep Finset.univ Φ from by
    rw [Ring.pointsTo_blocks I hd hc f]; exact bigSep_mono fun i _ => h i f) $$ H

include hd hc f₀ in
theorem join_some (Φ : ι → SP F) (h : ∀ i, Φ i ⊢ iprop(∃ f, ℓ ↦[I i]{fullShare} f)) :
    bigSep Finset.univ Φ ⊢ iprop(∃ f, ℓ ↦{fullShare} f) :=
  (bigSep_mono fun i _ => h i).trans (Ring.pointsTo_blocks_join_exists I hd hc f₀)

include hd hc f₀ in
/-- Pieces about which something is known join to a buffer of which all of it is known. -/
theorem join_known (R : ι → Buf (Elt F) ℓ → Prop) (hR : ∀ i f g, (∀ x ∈ I i, g x = f x) → R i f → R i g) (Φ : ι → SP F)
    (h : ∀ i, Φ i ⊢ iprop(∃ f, ⌜R i f⌝ ∗ ℓ ↦[I i]{fullShare} f)) :
    bigSep Finset.univ Φ ⊢ iprop(∃ f, ⌜∀ i, R i f⌝ ∗ ℓ ↦{fullShare} f) := by
  have : Nonempty (Buf (Elt F) ℓ) := ⟨f₀⟩
  refine (bigSep_mono fun i _ => h i).trans ?_
  refine (bigSep_exists_pi Finset.univ (fun i (f : Buf (Elt F) ℓ) => (iprop(⌜R i f⌝ ∗ ℓ ↦[I i]{fullShare} f) : sProp 𝕄))).trans ?_
  iintro ⟨%fs, H⟩
  ihave H' := (bigSep_pure_sep Finset.univ (fun i => R i (fs i)) (fun i => (ℓ ↦[I i]{fullShare} fs i : sProp 𝕄))) $$ H
  icases H' with ⟨%hk, H⟩
  ihave H' := (pointsTo_biUnion_join Finset.univ I fs f₀ (fun i _ j _ hij => hd i j hij)) $$ H
  icases H' with ⟨%g, %hg, H⟩
  iexists g
  isplitr
  · ipureintro
    exact fun i => hR i (fs i) g (hg i (Finset.mem_univ i)) (hk i (Finset.mem_univ i))
  rw [hc]
  iexact H

end Pieces

/-! ## The scratch buffers -/

theorem set_yst (s : Fin 2) : (yst s).view.set = (Rect.unit (s := S2x256x1024) ![s.val, 0, 0] S1x256x1024.size (inbSt s)).set :=
  (View.set_reshape _ _).trans (View.set_slice_whole _ _)
theorem set_snd (s : Fin 16) : (snd s).view.set = (Rect.unit (s := S16x256x1024) ![s.val, 0, 0] S1x256x1024.size (inbSd s)).set :=
  (View.set_reshape _ _).trans (View.set_slice_whole _ _)
theorem set_yb (k : Fin 32) : (yb k).view.set = (Rect.unit (s := S32x256x1024) ![k.val, 0, 0] S1x256x1024.size (inbRv k)).set :=
  (View.set_reshape _ _).trans (View.set_slice_whole _ _)
theorem set_xb (k : Fin 32) : (xb k).view.set = (Rect.unit (s := S32x256x1024) ![k.val, 0, 0] S1x256x1024.size (inbRv k)).set :=
  (View.set_reshape _ _).trans (View.set_slice_whole _ _)
theorem set_lst (s : Fin 2) : (lst s).view.set = (Rect.unit (s := S2x512x1024) ![s.val, 0, 0] S1x512x1024.size (inbLs s)).set :=
  (View.set_reshape _ _).trans (View.set_slice_whole _ _)
theorem set_lb (s : Fin 2) : (lb s).view.set = (Rect.unit (s := S2x512x1024) ![s.val, 0, 0] S1x512x1024.size (inbLs s)).set :=
  (View.set_reshape _ _).trans (View.set_slice_whole _ _)

/-- Slots of one kind lie apart, and cover their buffer. -/
theorem slots_apart {n a b : ℕ} (inb : ∀ (s : Fin n) x, (![s.val, 0, 0] : Fin 3 → ℕ) x + (⟨3, ![1, a, b]⟩ : Shape).size x ≤ (⟨3, ![n, a, b]⟩ : Shape).size x)
    (i j : Fin n) (h : i ≠ j) :
    Disjoint (Rect.unit (s := (⟨3, ![n, a, b]⟩ : Shape)) ![i.val, 0, 0] (⟨3, ![1, a, b]⟩ : Shape).size (inb i)).set
      (Rect.unit (s := (⟨3, ![n, a, b]⟩ : Shape)) ![j.val, 0, 0] (⟨3, ![1, a, b]⟩ : Shape).size (inb j)).set :=
  Ring.lead_disjoint (s := (⟨3, ![n, a, b]⟩ : Shape)) (0 : Fin 3) 1 (fun s : Fin n => ![s.val, 0, 0]) (⟨3, ![1, a, b]⟩ : Shape).size inb
    (fun s => (Nat.one_mul _).symm) rfl i j h

theorem slots_cover {n a b : ℕ} (inb : ∀ (s : Fin n) x, (![s.val, 0, 0] : Fin 3 → ℕ) x + (⟨3, ![1, a, b]⟩ : Shape).size x ≤ (⟨3, ![n, a, b]⟩ : Shape).size x) :
    Finset.univ.biUnion (fun s : Fin n => (Rect.unit (s := (⟨3, ![n, a, b]⟩ : Shape)) ![s.val, 0, 0] (⟨3, ![1, a, b]⟩ : Shape).size (inb s)).set) = Finset.univ :=
  Ring.lead_cover (s := (⟨3, ![n, a, b]⟩ : Shape)) (0 : Fin 3) 1 (fun s : Fin n => ![s.val, 0, 0]) (⟨3, ![1, a, b]⟩ : Shape).size inb
    (fun s => (Nat.one_mul _).symm)
    (fun s x hx => by
      have h0 : x.val ≠ 0 := fun e => hx (Fin.ext e)
      have hlt : x.val < 3 := x.isLt
      rcases (show x.val = 1 ∨ x.val = 2 by omega) with e | e
      · rw [show x = (1 : Fin 3) from Fin.ext e]; rfl
      · rw [show x = (2 : Fin 3) from Fin.ext e]; rfl)
    rfl
    (fun x hx => by
      have h0 : x.val ≠ 0 := fun e => hx (Fin.ext e)
      have hlt : x.val < 3 := x.isLt
      rcases (show x.val = 1 ∨ x.val = 2 by omega) with e | e
      · rw [show x = (1 : Fin 3) from Fin.ext e]; rfl
      · rw [show x = (2 : Fin 3) from Fin.ext e]; rfl)
    (Nat.mul_one n)

/-- A buffer held whole at some contents. -/
abbrev buf (d : Dev nD) (b : Ref sig .tc) : sProp 𝕄 := iprop(∃ f : Buf (Elt F) ((d : Thread nD τ).loc b), ((d : Thread nD τ).loc b) ↦{fullShare} f)

section Scratch

theorem yst_cut : (buf d cc0_scratch0 : sProp 𝕄) ⊢ bigSep Finset.univ fun s => some' d (yst s) :=
  cut_some (ℓ := (d : Thread nD τ).loc cc0_scratch0) (fun s : Fin 2 => (Rect.unit (s := S2x256x1024) ![s.val, 0, 0] S1x256x1024.size (inbSt s)).set)
    (slots_apart inbSt) (slots_cover inbSt) _ (fun s f => by have h := piece_some d (yst s) f; rw [set_yst] at h; exact h)
include m in
theorem yst_join : bigSep Finset.univ (fun s => (some' d (yst s) : sProp 𝕄)) ⊢ buf d cc0_scratch0 :=
  join_some (ℓ := (d : Thread nD τ).loc cc0_scratch0) (fun s : Fin 2 => (Rect.unit (s := S2x256x1024) ![s.val, 0, 0] S1x256x1024.size (inbSt s)).set)
    (slots_apart inbSt) (slots_cover inbSt) (m _) _ (fun s => by have h := some_piece (F := F) d (yst s); rw [set_yst] at h; exact h)

theorem snd_cut : (buf d cc0_scratch1 : sProp 𝕄) ⊢ bigSep Finset.univ fun s => some' d (snd s) :=
  cut_some (ℓ := (d : Thread nD τ).loc cc0_scratch1) (fun s : Fin 16 => (Rect.unit (s := S16x256x1024) ![s.val, 0, 0] S1x256x1024.size (inbSd s)).set)
    (slots_apart inbSd) (slots_cover inbSd) _ (fun s f => by have h := piece_some d (snd s) f; rw [set_snd] at h; exact h)
include m in
theorem snd_join : bigSep Finset.univ (fun s => (some' d (snd s) : sProp 𝕄)) ⊢ buf d cc0_scratch1 :=
  join_some (ℓ := (d : Thread nD τ).loc cc0_scratch1) (fun s : Fin 16 => (Rect.unit (s := S16x256x1024) ![s.val, 0, 0] S1x256x1024.size (inbSd s)).set)
    (slots_apart inbSd) (slots_cover inbSd) (m _) _ (fun s => by have h := some_piece (F := F) d (snd s); rw [set_snd] at h; exact h)

theorem yb_cut : (buf d cc0_scratch2 : sProp 𝕄) ⊢ bigSep Finset.univ fun s => some' d (yb s) :=
  cut_some (ℓ := (d : Thread nD τ).loc cc0_scratch2) (fun s : Fin 32 => (Rect.unit (s := S32x256x1024) ![s.val, 0, 0] S1x256x1024.size (inbRv s)).set)
    (slots_apart inbRv) (slots_cover inbRv) _ (fun s f => by have h := piece_some d (yb s) f; rw [set_yb] at h; exact h)
include m in
theorem yb_join : bigSep Finset.univ (fun s => (some' d (yb s) : sProp 𝕄)) ⊢ buf d cc0_scratch2 :=
  join_some (ℓ := (d : Thread nD τ).loc cc0_scratch2) (fun s : Fin 32 => (Rect.unit (s := S32x256x1024) ![s.val, 0, 0] S1x256x1024.size (inbRv s)).set)
    (slots_apart inbRv) (slots_cover inbRv) (m _) _ (fun s => by have h := some_piece (F := F) d (yb s); rw [set_yb] at h; exact h)

theorem xb_cut : (buf d cc0_scratch3 : sProp 𝕄) ⊢ bigSep Finset.univ fun s => some' d (xb s) :=
  cut_some (ℓ := (d : Thread nD τ).loc cc0_scratch3) (fun s : Fin 32 => (Rect.unit (s := S32x256x1024) ![s.val, 0, 0] S1x256x1024.size (inbRv s)).set)
    (slots_apart inbRv) (slots_cover inbRv) _ (fun s f => by have h := piece_some d (xb s) f; rw [set_xb] at h; exact h)
include m in
theorem xb_join : bigSep Finset.univ (fun s => (some' d (xb s) : sProp 𝕄)) ⊢ buf d cc0_scratch3 :=
  join_some (ℓ := (d : Thread nD τ).loc cc0_scratch3) (fun s : Fin 32 => (Rect.unit (s := S32x256x1024) ![s.val, 0, 0] S1x256x1024.size (inbRv s)).set)
    (slots_apart inbRv) (slots_cover inbRv) (m _) _ (fun s => by have h := some_piece (F := F) d (xb s); rw [set_xb] at h; exact h)

theorem lst_cut : (buf d cc0_scratch4 : sProp 𝕄) ⊢ bigSep Finset.univ fun s => some' d (lst s) :=
  cut_some (ℓ := (d : Thread nD τ).loc cc0_scratch4) (fun s : Fin 2 => (Rect.unit (s := S2x512x1024) ![s.val, 0, 0] S1x512x1024.size (inbLs s)).set)
    (slots_apart inbLs) (slots_cover inbLs) _ (fun s f => by have h := piece_some d (lst s) f; rw [set_lst] at h; exact h)
include m in
theorem lst_join : bigSep Finset.univ (fun s => (some' d (lst s) : sProp 𝕄)) ⊢ buf d cc0_scratch4 :=
  join_some (ℓ := (d : Thread nD τ).loc cc0_scratch4) (fun s : Fin 2 => (Rect.unit (s := S2x512x1024) ![s.val, 0, 0] S1x512x1024.size (inbLs s)).set)
    (slots_apart inbLs) (slots_cover inbLs) (m _) _ (fun s => by have h := some_piece (F := F) d (lst s); rw [set_lst] at h; exact h)

theorem lb_cut : (buf d cc0_scratch5 : sProp 𝕄) ⊢ bigSep Finset.univ fun s => some' d (lb s) :=
  cut_some (ℓ := (d : Thread nD τ).loc cc0_scratch5) (fun s : Fin 2 => (Rect.unit (s := S2x512x1024) ![s.val, 0, 0] S1x512x1024.size (inbLs s)).set)
    (slots_apart inbLs) (slots_cover inbLs) _ (fun s f => by have h := piece_some d (lb s) f; rw [set_lb] at h; exact h)
include m in
theorem lb_join : bigSep Finset.univ (fun s => (some' d (lb s) : sProp 𝕄)) ⊢ buf d cc0_scratch5 :=
  join_some (ℓ := (d : Thread nD τ).loc cc0_scratch5) (fun s : Fin 2 => (Rect.unit (s := S2x512x1024) ![s.val, 0, 0] S1x512x1024.size (inbLs s)).set)
    (slots_apart inbLs) (slots_cover inbLs) (m _) _ (fun s => by have h := some_piece (F := F) d (lb s); rw [set_lb] at h; exact h)

end Scratch

theorem two (Φ : Fin 2 → SP F) : bigSep Finset.univ Φ = iprop(Φ 0 ∗ Φ 1) := bigSep_univ_eq_bigSepL [0, 1] (by decide) (by decide) Φ

/-- All six: -/
def bufs (d : Dev nD) : sProp 𝕄 :=
  iprop(buf d cc0_scratch0 ∗ buf d cc0_scratch1 ∗ buf d cc0_scratch2 ∗ buf d cc0_scratch3 ∗ buf d cc0_scratch4 ∗ buf d cc0_scratch5)

/-- cut, -/
theorem bufs_cut : (bufs d : sProp 𝕄) ⊢ iprop(rooms d ∗ bigSep Finset.univ (fun k : Fin 32 => some' (F := F) d (yb k)) ∗ bigSep Finset.univ (fun k : Fin 32 => some' (F := F) d (xb k))) := by
  have h0 := yst_cut (F := F) d
  have h4 := lst_cut (F := F) d
  have h5 := lb_cut (F := F) d
  rw [two] at h0 h4 h5
  unfold bufs rooms roomY roomL
  iintro ⟨H0, H1, H2, H3, H4, H5⟩
  ihave H0' := h0 $$ H0
  ihave H1' := (snd_cut d) $$ H1
  ihave H2' := (yb_cut d) $$ H2
  ihave H3' := (xb_cut d) $$ H3
  ihave H4' := h4 $$ H4
  ihave H5' := h5 $$ H5
  isplitr [H2' H3']
  · isplitl [H0']; · iexact H0'
    isplitl [H4']; · iexact H4'
    isplitl [H5'] <;> iassumption
  isplitl [H2'] <;> iassumption

include m in
/-- and joined. -/
theorem bufs_join : iprop(rooms d ∗ bigSep Finset.univ (fun k : Fin 32 => some' (F := F) d (yb k)) ∗ bigSep Finset.univ (fun k : Fin 32 => some' (F := F) d (xb k))) ⊢ (bufs d : sProp 𝕄) := by
  have h0 := yst_join m d
  have h4 := lst_join m d
  have h5 := lb_join m d
  rw [two] at h0 h4 h5
  unfold bufs rooms roomY roomL
  iintro ⟨⟨H0, H4, H5, H1⟩, H2, H3⟩
  isplitl [H0]; · iapply h0 $$ H0
  isplitl [H1]; · iapply (snd_join m d) $$ H1
  isplitl [H2]; · iapply (yb_join m d) $$ H2
  isplitl [H3]; · iapply (xb_join m d) $$ H3
  isplitl [H4]; · iapply h4 $$ H4
  iapply h5 $$ H5

/-! ## The result -/

/-- The blocks of the result: the device's own, the partner's, the forwarded. -/
def outSet (d : Dev nD) : Fin 32 ⊕ (Fin 32 ⊕ Fin 32) → Finset S32768x1024.Idx
  | .inl k => (oL d k).view.set
  | .inr (.inl k) => (oY d k).view.set
  | .inr (.inr k) => (oX d k).view.set

/-- Where a block begins, and how tall it is. -/
def outRow (d : Dev nD) : Fin 32 ⊕ (Fin 32 ⊕ Fin 32) → ℕ
  | .inl k => 16384 * (d.val % 2) + 512 * k.val
  | .inr (.inl k) => (8192 * (d.val / 2) + 256 * k.val + 16384) - 16384 * (d.val % 2)
  | .inr (.inr k) => (256 * k.val + 24576) - (16384 * (d.val % 2) + 8192 * (d.val / 2))
def outTall : Fin 32 ⊕ (Fin 32 ⊕ Fin 32) → ℕ
  | .inl _ => 512
  | .inr _ => 256

theorem mem_rows {off : Fin 2 → ℕ} {r h : ℕ} (inb : ∀ a, off a + (⟨2, ![h, 1024]⟩ : Shape).size a ≤ S32768x1024.size a) (e : off = ![r, 0]) (x : S32768x1024.Idx) :
    x ∈ (Rect.unit (s := S32768x1024) off (⟨2, ![h, 1024]⟩ : Shape).size inb).set ↔ r ≤ (x 0).val ∧ (x 0).val < r + h := by
  rw [Rect.mem_set_unit]
  subst e
  constructor
  · intro hx; exact hx 0
  · intro hx a
    have : a.val < 2 := a.isLt
    rcases (show a.val = 0 ∨ a.val = 1 by omega) with e | e
    · rw [show a = (0 : Fin 2) from Fin.ext e]; exact hx
    · rw [show a = (1 : Fin 2) from Fin.ext e]
      have h1 : (x 1).val < 1024 := (x 1).isLt
      exact ⟨Nat.zero_le _, by show (x 1).val < 0 + 1024; omega⟩

theorem mem_out (i : Fin 32 ⊕ (Fin 32 ⊕ Fin 32)) (x : S32768x1024.Idx) :
    x ∈ outSet d i ↔ outRow d i ≤ (x 0).val ∧ (x 0).val < outRow d i + outTall i := by
  rcases i with k | k | k
  · rw [show outSet d (.inl k) = _ from View.set_slice_whole _ _]
    exact mem_rows (h := 512) (k0_off4_inb d k) (k0_off4_eq d k) x
  · rw [show outSet d (.inr (.inl k)) = _ from View.set_slice_whole _ _]
    exact mem_rows (h := 256) (k0_off6_inb d k) (k0_off6_eq d k) x
  · rw [show outSet d (.inr (.inr k)) = _ from View.set_slice_whole _ _]
    exact mem_rows (h := 256) (k0_off36_inb d k) (k0_off36_eq d k) x

/-- A device's two coordinates in the square. -/
theorem dev_bits (d : Dev nD) : (d.val / 2 = 0 ∨ d.val / 2 = 1) ∧ (d.val % 2 = 0 ∨ d.val % 2 = 1) := by
  have : d.val < 4 := d.isLt
  omega

theorem out_apart (i j : Fin 32 ⊕ (Fin 32 ⊕ Fin 32)) (h : i ≠ j) : Disjoint (outSet d i) (outSet d j) := by
  rw [Finset.disjoint_left]
  intro x hi hj
  rw [mem_out] at hi hj
  obtain ⟨hp, hq⟩ := dev_bits d
  apply h
  rcases i with k | k | k <;> rcases j with l | l | l <;> simp only [outRow, outTall] at hi hj <;> have hk := k.isLt <;> have hl := l.isLt <;>
    rcases hp with hp | hp <;> rcases hq with hq | hq <;>
    first
    | (exfalso; omega)
    | exact congrArg Sum.inl (Fin.ext (by omega))
    | exact congrArg (fun t => Sum.inr (Sum.inl t)) (Fin.ext (by omega))
    | exact congrArg (fun t => Sum.inr (Sum.inr t)) (Fin.ext (by omega))

theorem out_cover : Finset.univ.biUnion (outSet d) = Finset.univ := by
  ext x
  simp only [Finset.mem_biUnion, Finset.mem_univ, true_and, iff_true]
  obtain ⟨hp, hq⟩ := dev_bits d
  have hx : (x 0).val < 32768 := (x 0).isLt
  by_cases h1 : (x 0).val / 16384 = d.val % 2
  · refine ⟨.inl ⟨(x 0).val % 16384 / 512, by omega⟩, (mem_out d _ x).mpr ?_⟩
    simp only [outRow, outTall]
    rcases hp with hp | hp <;> rcases hq with hq | hq <;> omega
  · by_cases h2 : (x 0).val % 16384 / 8192 = d.val / 2
    · refine ⟨.inr (.inl ⟨(x 0).val % 8192 / 256, by omega⟩), (mem_out d _ x).mpr ?_⟩
      simp only [outRow, outTall]
      rcases hp with hp | hp <;> rcases hq with hq | hq <;> omega
    · refine ⟨.inr (.inr ⟨(x 0).val % 8192 / 256, by omega⟩), (mem_out d _ x).mpr ?_⟩
      simp only [outRow, outTall]
      rcases hp with hp | hp <;> rcases hq with hq | hq <;> omega

theorem out_cut (f : Buf (Elt F) ((d : Thread nD τ).loc main_v1)) : (((d : Thread nD τ).loc main_v1) ↦{fullShare} f : sProp 𝕄)
    ⊢ iprop(bigSep Finset.univ (fun k : Fin 32 => some' (F := F) d (oL d k)) ∗ bigSep Finset.univ (fun k : Fin 32 => some' (F := F) d (oY d k))
      ∗ bigSep Finset.univ (fun k : Fin 32 => some' (F := F) d (oX d k))) := by
  rw [Ring.pointsTo_blocks (ℓ := (d : Thread nD τ).loc main_v1) (outSet d) (out_apart d) (out_cover d) f, bigSep_univ_sum, bigSep_univ_sum]
  exact sep_mono (bigSep_mono fun k _ => piece_some d (oL d k) f)
    (sep_mono (bigSep_mono fun k _ => piece_some d (oY d k) f) (bigSep_mono fun k _ => piece_some d (oX d k) f))

/-- What a block of the result holds at the end. -/
def outHas (d : Dev nD) (f : Buf (Elt F) ((d : Thread nD τ).loc main_v1)) : Fin 32 ⊕ (Fin 32 ⊕ Fin 32) → Prop
  | .inl k => (oL d k).view.read (Elt F) f = chL m d k
  | .inr (.inl k) => (oY d k).view.read (Elt F) f = inY m d k
  | .inr (.inr k) => (oX d k).view.read (Elt F) f = inX m d k

theorem out_join : iprop(bigSep Finset.univ (fun k : Fin 32 => own' d (oL d k) (chL m d k)) ∗ bigSep Finset.univ (fun k : Fin 32 => own' d (oY d k) (inY m d k))
      ∗ bigSep Finset.univ (fun k : Fin 32 => own' d (oX d k) (inX m d k)))
    ⊢ (iprop(∃ f : Buf (Elt F) ((d : Thread nD τ).loc main_v1), ⌜∀ i, outHas m d f i⌝ ∗ ((d : Thread nD τ).loc main_v1) ↦{fullShare} f) : sProp 𝕄) := by
  refine BIBase.Entails.trans ?_ (join_known (ℓ := (d : Thread nD τ).loc main_v1) (outSet d) (out_apart d) (out_cover d) (m _) (fun i f => outHas m d f i) ?_
    (fun i => match i with
      | .inl k => own' d (oL d k) (chL m d k)
      | .inr (.inl k) => own' d (oY d k) (inY m d k)
      | .inr (.inr k) => own' d (oX d k) (inX m d k)) ?_)
  · rw [bigSep_univ_sum, bigSep_univ_sum]
    exact .rfl
  · rintro (k | k | k) f g hfg h
    · exact (View.read_congr hfg).trans h
    · exact (View.read_congr hfg).trans h
    · exact (View.read_congr hfg).trans h
  · rintro (k | k | k)
    · unfold own' owns; exact .rfl
    · unfold own' owns; exact .rfl
    · unfold own' owns; exact .rfl

/-! ## The operand -/

theorem mem_part {off : Fin 2 → ℕ} {r c h : ℕ} (inb : ∀ a, off a + (⟨2, ![h, 1024]⟩ : Shape).size a ≤ S16384x2048.size a) (e : off = ![r, c]) (x : S16384x2048.Idx)
    (hx : x ∈ (Rect.unit (s := S16384x2048) off (⟨2, ![h, 1024]⟩ : Shape).size inb).set) : r ≤ (x 0).val ∧ (x 0).val < r + h := by
  subst e
  exact Rect.mem_set_unit.mp hx 0

theorem offL_eq : ∀ d : Dev nD, ∀ j : Fin 32, offL d j = ![512 * j.val, 1024 * (d.val % 2)] := by decide +kernel

theorem xY_apart (i j : Fin 32) (h : i ≠ j) : Disjoint (xY d i).view.set (xY d j).view.set := by
  rw [Finset.disjoint_left]
  intro x hi hj
  rw [show (xY d i).view.set = _ from View.set_slice_whole _ _] at hi
  rw [show (xY d j).view.set = _ from View.set_slice_whole _ _] at hj
  have hi := mem_part (h := 256) (k0_off1_inb d i) (k0_off1_eq d i) x hi
  have hj := mem_part (h := 256) (k0_off1_inb d j) (k0_off1_eq d j) x hj
  exact h (Fin.ext (by omega))

theorem xL_apart (i j : Fin 32) (h : i ≠ j) : Disjoint (xL d i).view.set (xL d j).view.set := by
  rw [Finset.disjoint_left]
  intro x hi hj
  rw [show (xL d i).view.set = _ from View.set_slice_whole _ _] at hi
  rw [show (xL d j).view.set = _ from View.set_slice_whole _ _] at hj
  have hi := mem_part (h := 512) (offL_inb d i) (offL_eq d i) x hi
  have hj := mem_part (h := 512) (offL_inb d j) (offL_eq d j) x hj
  exact h (Fin.ext (by omega))

theorem sub_cut {ℓ : Loc nD τ sig} (I : Fin 32 → Finset (Idx ℓ)) (hd : ∀ i j, i ≠ j → Disjoint (I i) (I j)) (q : PosShare TreeShare) (f : Buf (Elt F) ℓ) :
    (ℓ ↦{q} f : sProp 𝕄) ⊢ bigSep Finset.univ fun k => ℓ ↦[I k]{q} f := by
  rw [← Ring.pointsTo_sub_blocks I hd _ rfl f]
  exact (pointsTo_split_subset (Finset.subset_univ (Finset.univ.biUnion I))).1.trans sep_elim_left

/-- Half of the operand stays; a quarter goes to the loads of each kind. -/
theorem opnd_cut : (((d : Thread nD τ).loc main_arg0) ↦{fullShare} opnd m d : sProp 𝕄)
    ⊢ iprop((((d : Thread nD τ).loc main_arg0) ↦{fullShare.left} opnd m d) ∗ bigSep Finset.univ (fun k : Fin 32 => owns (d : Thread nD τ) (xY d k) qY (ldY m d k))
      ∗ bigSep Finset.univ (fun k : Fin 32 => owns (d : Thread nD τ) (xL d k) qL (ldL m d k))) := by
  have h1 : (((d : Thread nD τ).loc main_arg0) ↦{qY} opnd m d : sProp 𝕄) ⊢ bigSep Finset.univ (fun k : Fin 32 => owns (d : Thread nD τ) (xY d k) qY (ldY m d k)) :=
    (sub_cut (ℓ := (d : Thread nD τ).loc main_arg0) (fun k => (xY d k).view.set) (xY_apart d) qY (opnd m d)).trans
      (bigSep_mono fun k _ => piece_owns d (xY d k) qY (opnd m d))
  have h2 : (((d : Thread nD τ).loc main_arg0) ↦{qL} opnd m d : sProp 𝕄) ⊢ bigSep Finset.univ (fun k : Fin 32 => owns (d : Thread nD τ) (xL d k) qL (ldL m d k)) :=
    (sub_cut (ℓ := (d : Thread nD τ).loc main_arg0) (fun k => (xL d k).view.set) (xL_apart d) qL (opnd m d)).trans
      (bigSep_mono fun k _ => piece_owns d (xL d k) qL (opnd m d))
  exact (pointsTo_share (PosShare.mem_left_op_right fullShare)).1.trans
    (BIClass.sep_mono .rfl ((pointsTo_share (PosShare.mem_left_op_right fullShare.right)).1.trans (BIClass.sep_mono h1 h2)))

end Cert.KernelIdeal.Kx
-- ==== Proof.Deal.lean ====
/- What the devices are dealt before the kernel starts: the cells opened, the instalments minted and handed to the
   devices that pay them, the credits; and the cells closed at the end. -/
module

public import proofs.«01_k».proof.Proof.Slots
public import proofs.«01_k».proof.Proof.Gen.KernelIdeal.Launch

@[expose] public section

noncomputable section

namespace Cert.KernelIdeal.Kx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (Kn : Dev nD × Kd → ℕ) (d : Dev nD)

/-! ## All of a device's cells, kind by kind -/

theorem over_bool (Φ : Bool → SP F) : bigSep Finset.univ Φ = iprop(Φ false ∗ Φ true) :=
  bigSep_univ_eq_bigSepL [false, true] (by decide) (by decide) Φ
theorem over_two (Φ : Fin 2 → SP F) : bigSep Finset.univ Φ = iprop(Φ 0 ∗ Φ 1) :=
  bigSep_univ_eq_bigSepL [0, 1] (by decide) (by decide) Φ
theorem over_three (Φ : Fin 3 → SP F) : bigSep Finset.univ Φ = iprop(Φ 0 ∗ Φ 1 ∗ Φ 2) :=
  bigSep_univ_eq_bigSepL [0, 1, 2] (by decide) (by decide) Φ
theorem over_six (Φ : Fin 6 → SP F) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The barrier's cell and the kernel's own; -/
theorem over_kd' (Φ : Kd → SP F) : bigSep Finset.univ Φ = iprop(bigSep Finset.univ (fun o : Own => Φ (some o)) ∗ Φ none) := by
  rw [bigSep_univ_equiv (Equiv.optionEquivSumPUnit.{0} Own).symm Φ, bigSep_univ_sum]
  congr 1
  exact bigSep_singleton (i := PUnit.unit) (Φ := fun b => Φ ((Equiv.optionEquivSumPUnit.{0} Own).symm (Sum.inr b)))

/-- and these one by one. -/
theorem over_kd (Φ : Kd → SP F) : bigSep Finset.univ Φ
    = iprop((((Φ (k2 0 0) ∗ Φ (k2 0 1)) ∗ (Φ (k2 1 0) ∗ Φ (k2 1 1)) ∗ (Φ (k2 2 0) ∗ Φ (k2 2 1)))
        ∗ bigSep Finset.univ (fun k : Fin 32 => Φ (k32 0 k)) ∗ bigSep Finset.univ (fun k : Fin 32 => Φ (k32 1 k))
        ∗ bigSep Finset.univ (fun k : Fin 32 => Φ (k32 2 k)) ∗ bigSep Finset.univ (fun k : Fin 32 => Φ (k32 3 k))
        ∗ bigSep Finset.univ (fun k : Fin 32 => Φ (k32 4 k)) ∗ bigSep Finset.univ (fun k : Fin 32 => Φ (k32 5 k))) ∗ Φ none) := by
  rw [over_kd', bigSep_univ_sum, bigSep_univ_prod, bigSep_univ_prod, over_three, over_six, over_two, over_two, over_two]
  rfl

/-- What each part gives by itself and with something known throughout, all give together. -/
theorem each_with {I : Type} [DecidableEq I] (S : Finset I) (R : SP F) [Persistent R] (Φ Ψ : I → SP F)
    (h : ∀ i ∈ S, iprop(R ∗ Φ i) ⊢ Ψ i) : iprop(R ∗ bigSep S Φ) ⊢ bigSep S Ψ := by
  have h1 : iprop(bigSep S (fun _ => R) ∗ bigSep S Φ) ⊢ bigSep S Ψ := by
    rw [← bigSep_sep']; exact bigSep_mono h
  iintro ⟨#HR, H⟩
  iapply h1
  isplitr
  · iapply (BI.bigSep_of_persistent S R); iexact HR
  · iexact H

/-! ## Closing -/

/-- The round in which a cell has seen all its instalments. -/
def rEnd : Kd → ℕ
  | some (.inl _) => 16
  | _ => 1

theorem no_end (κ : Kd) : ∀ r, rEnd κ ≤ r → (Rd (F := F) m).duties (cell d κ) r = ∅ := by
  rcases κ with _ | ⟨a, s⟩ | ⟨b, k⟩
  · exact no_more' m d none (fun _ _ h => by cases h)
  · exact no_more m d (k2 a s)
  · exact no_more' m d (k32 b k) (fun _ _ h => by cases h)

theorem close_all :
    iprop(ctx m Kn ∗ bigSep Finset.univ (fun κ : Kd => pos (F := F) d κ (rEnd κ)))
      ⊢ |={Set.univ}=> bigSep Finset.univ (fun κ : Kd => semVal (cell d κ) 0) := by
  refine (each_with Finset.univ (ctx m Kn) _ (fun κ : Kd => iprop(|={Set.univ}=> semVal (cell d κ) 0)) fun κ _ => ?_).trans (bigSep_fupd _ _)
  iintro ⟨#Hc, H⟩
  iapply (Rounds.cell_close ER (Rd m) (Set.mem_univ (Kn (d, κ))) (fun h => h) (R := rEnd κ) (no_end m d κ))
  isplitr
  · iapply (ctx_inv m Kn d κ); iexact Hc
  · iexact H

/-! ## The semaphores at the start and at the end -/

theorem ownSemFacts : Pipeline.OwnSemFacts cfg0.spec osem where
  isScoped := by
    rintro (⟨a, s⟩ | ⟨b, k⟩)
    · exact (by decide +kernel : ∀ a s, (SemLoc.dma (arr2 a s) : SemLoc sig).isScoped .tc = true) a s
    · exact (by decide +kernel : ∀ b k, (SemLoc.dma (arr32 b k) : SemLoc sig).isScoped .tc = true) b k
  inj := fun o o' h => Option.some.inj (csem_injective (a₁ := some o) (a₂ := some o') h)
  disj := fun _ w => w.elim0

theorem unscopedSems0_bar :
    (unscopedSems0 d : sProp 𝕄) = semVal (cell d none) 0 := by
  unfold unscopedSems0
  rw [bigSep_eq_bigSepL_of_eq [SemLoc.reg sBar] (by decide) (by decide +kernel)]
  rfl

theorem sems_all : iprop(Pipeline.ownSems0 osem d ∗ unscopedSems0 d) = (bigSep Finset.univ fun κ : Kd => semVal (cell d κ) 0 : sProp 𝕄) := by
  rw [over_kd', unscopedSems0_bar]
  rfl

/-! ## The cells and the instalments minted -/

theorem cell_inj {d d' : Dev nD} {κ κ' : Kd} (h : cell d κ = cell d' κ') : d = d' ∧ κ = κ' :=
  ⟨congrArg (fun g : GSem nD τ sig => g.1.1) h, csem_injective (congrArg Prod.snd h)⟩

def theCells : Finset (GSem nD τ sig) :=
  Finset.univ.map ⟨fun p : Dev nD × Kd => cell p.1 p.2, fun _ _ h => Prod.ext (cell_inj h).1 (cell_inj h).2⟩

/-- The instalments on a device's cells. -/
abbrev Tk : Type := Bool ⊕ ((Fin 3 × Fin 32) ⊕ (Fin 6 × Fin 32))

def tkAt (d : Dev nD) : Tk → GSem nD τ sig × ℕ × Bool
  | .inl b => (cell d none, 0, b)
  | .inr (.inl (a, k)) => (cell d (k2 a (par k)), k.val / 2, false)
  | .inr (.inr (b, k)) => (cell d (k32 b k), 0, false)

/-- Which instalment a cell, round and number are. -/
def tkOf (r : ℕ) (b : Bool) : Kd → Tk
  | none => .inl b
  | some (.inl (a, s)) => .inr (.inl (a, chOf r s))
  | some (.inr (c, k)) => .inr (.inr (c, k))

theorem tkOf_tkAt (d : Dev nD) (t : Tk) : tkOf (tkAt d t).2.1 (tkAt d t).2.2 (kdOf (tkAt d t).1.2) = t := by
  rcases t with b | ⟨a, k⟩ | ⟨b, k⟩
  · show tkOf 0 b (kdOf (csem none)) = _
    rw [kdOf_csem]; rfl
  · show tkOf (k.val / 2) false (kdOf (csem (k2 a (par k)))) = _
    rw [kdOf_csem]
    show Sum.inr (Sum.inl (a, chOf (k.val / 2) (par k))) = _
    rw [chOf_par]
  · show tkOf 0 false (kdOf (csem (k32 b k))) = _
    rw [kdOf_csem]; rfl

theorem tkAt_dev (d : Dev nD) (t : Tk) : (tkAt d t).1.1.1 = d := by
  rcases t with b | ⟨a, k⟩ | ⟨b, k⟩ <;> rfl

def theToks : Finset (GSem nD τ sig × ℕ × Bool) :=
  Finset.univ.map ⟨fun p : Dev nD × Tk => tkAt p.1 p.2, fun p p' h => by
    refine Prod.ext ?_ ?_
    · have := congrArg (fun x : GSem nD τ sig × ℕ × Bool => x.1.1.1) h
      simpa only [tkAt_dev] using this
    · have := congrArg (fun x : GSem nD τ sig × ℕ × Bool => tkOf x.2.1 x.2.2 (kdOf x.1.2)) h
      simpa only [tkOf_tkAt] using this⟩

def u₀ : UU := (initOf (Pipeline.cells cfgs cellOf_inj) (Pipeline.launchToks cfgs cellOf_inj), initOf theCells theToks)

/-- The instalments of all chunks on cells of one kind. -/
def A2 (d : Dev nD) (a : Fin 3) : sProp 𝕄 := bigSep Finset.univ fun k : Fin 32 => tok d (k2 a (par k)) (k.val / 2)
def A32 (d : Dev nD) (b : Fin 6) : sProp 𝕄 := bigSep Finset.univ fun k : Fin 32 => tok d (k32 b k) 0

/-- The instalments on a device's own cells; -/
def toks (d : Dev nD) : sProp 𝕄 :=
  iprop((dutyTok ER (cell d none) 0 false ∗ dutyTok ER (cell d none) 0 true) ∗ (A2 d 0 ∗ A2 d 1 ∗ A2 d 2)
    ∗ (A32 d 0 ∗ A32 d 1 ∗ A32 d 2 ∗ A32 d 3 ∗ A32 d 4 ∗ A32 d 5))

/-- and those a device pays. -/
def mine (d : Dev nD) : sProp 𝕄 :=
  iprop((dutyTok ER (cell (peerY d) none) 0 false ∗ dutyTok ER (cell (peerX d) none) 0 true) ∗ (A2 d 0 ∗ A2 d 1 ∗ A2 d 2)
    ∗ (A32 d 0 ∗ A32 (peerY d) 1 ∗ A32 d 2 ∗ A32 (peerX d) 3 ∗ A32 d 4 ∗ A32 d 5))

theorem toks_eq : (bigSep Finset.univ fun t : Tk => dutyTok ER (tkAt d t).1 (tkAt d t).2.1 (tkAt d t).2.2 : sProp 𝕄) = toks d := by
  rw [bigSep_univ_sum, bigSep_univ_sum, over_bool, bigSep_univ_prod, bigSep_univ_prod, over_three, over_six]
  rfl

/-- Every instalment goes to the device that pays it. -/
theorem toks_pass : (bigSep Finset.univ fun d : Dev nD => (toks d : sProp 𝕄)) = bigSep Finset.univ fun d : Dev nD => mine d := by
  unfold toks mine
  simp only [bigSep_sep']
  rw [bigSep_univ_equiv eqvY (fun d : Dev nD => (dutyTok ER (cell d none) 0 false : sProp 𝕄)),
    bigSep_univ_equiv eqvX (fun d : Dev nD => (dutyTok ER (cell d none) 0 true : sProp 𝕄)),
    bigSep_univ_equiv eqvY (fun d : Dev nD => (A32 d 1 : sProp 𝕄)),
    bigSep_univ_equiv eqvX (fun d : Dev nD => (A32 d 3 : sProp 𝕄))]
  rfl

/-- What each device is minted. -/
def G (d : Dev nD) : sProp 𝕄 :=
  iprop((bigSep Finset.univ fun κ : Kd => roundState ER (Rd m) (cell d κ) 0)
    ∗ (bigSep Finset.univ fun κ : Kd => pos d κ 0) ∗ (bigSep Finset.univ fun κ : Kd => rch (F := F) d κ 0) ∗ toks d)

theorem over_cells (Φ : GSem nD τ sig → SP F) :
    bigSep theCells Φ = bigSep Finset.univ fun d : Dev nD => bigSep Finset.univ fun κ : Kd => Φ (cell d κ) := by
  unfold theCells; rw [bigSep_map, bigSep_univ_prod]; rfl

theorem over_toks :
    bigSep theToks (fun x => (dutyTok ER x.1 x.2.1 x.2.2 : sProp 𝕄)) = bigSep Finset.univ fun d : Dev nD => toks d := by
  unfold theToks; rw [bigSep_map, bigSep_univ_prod]
  exact bigSep_congr fun d _ => toks_eq d

theorem mint : BI.own (ER (initOf theCells theToks)) ⊢ (|==> bigSep Finset.univ (G m) : sProp 𝕄) := by
  have h := Rounds.fund ER (Rd m) theCells theToks
  rw [over_cells, over_cells, over_cells, over_toks] at h
  unfold G; simp only [bigSep_sep']
  iintro H
  imod h $$ H with ⟨H1, H2, H3, H4⟩
  imodintro
  isplitl [H1]; · iexact H1
  isplitl [H3]; · iexact H3
  isplitl [H2]; · iexact H2
  iexact H4

/-! ## The cells opened -/

theorem open_one : iprop(Pipeline.ownSems0 osem d ∗ unscopedSems0 d ∗ G m d)
    ⊢ |={Set.univ}=> iprop((bigSep Finset.univ fun κ : Kd => iprop(∃ n : ℕ, cellInv ER (Rd m) n (cell d κ)))
        ∗ (bigSep Finset.univ fun κ : Kd => pos d κ 0) ∗ (bigSep Finset.univ fun κ : Kd => rch (F := F) d κ 0) ∗ toks d) := by
  have h : iprop((bigSep Finset.univ fun κ : Kd => semVal (cell d κ) 0) ∗ bigSep Finset.univ fun κ : Kd => roundState ER (Rd m) (cell d κ) 0)
      ⊢ (|={Set.univ}=> bigSep Finset.univ fun κ : Kd => iprop(∃ n : ℕ, cellInv ER (Rd m) n (cell d κ)) : sProp 𝕄) := by
    rw [← bigSep_sep']
    exact (bigSep_mono fun κ _ => (Rounds.body_intro ER (Rd m) (cell d κ)).trans inv_alloc).trans (bigSep_fupd _ _)
  rw [← sems_all] at h
  unfold G
  iintro ⟨Ho, Hu, H1, H2, H3, H4⟩
  imod h $$ [Ho Hu H1] with H
  · isplitl [Ho Hu]
    · isplitl [Ho] <;> iassumption
    iexact H1
  imodintro
  isplitl [H]; · iexact H
  isplitl [H2]; · iexact H2
  isplitl [H3] <;> iassumption

/-- What a device starts with of the protocol. -/
def G' (d : Dev nD) : sProp 𝕄 :=
  iprop(∃ Kn : Dev nD × Kd → ℕ,
    (bigSep Finset.univ (fun p : Dev nD × Kd => cellInv ER (Rd m) (Kn p) (cell p.1 p.2))
      ∗ bigSep Finset.univ (fun p : Dev nD × Kd => reached (ER (F := F)) (cell p.1 p.2) 0))
    ∗ (bigSep Finset.univ fun κ : Kd => pos d κ 0) ∗ mine d)

theorem regroup : (bigSep Finset.univ fun d : Dev nD =>
      iprop((bigSep Finset.univ fun κ : Kd => iprop(∃ n : ℕ, cellInv ER (Rd m) n (cell d κ)))
        ∗ (bigSep Finset.univ fun κ : Kd => pos d κ 0) ∗ (bigSep Finset.univ fun κ : Kd => rch (F := F) d κ 0) ∗ toks d) : sProp 𝕄)
    ⊢ bigSep Finset.univ (G' m) := by
  have hK := BI.bigSep_exists_pi Finset.univ (fun (p : Dev nD × Kd) (n : ℕ) => (cellInv ER (Rd m) n (cell p.1 p.2) : sProp 𝕄))
  rw [bigSep_univ_prod] at hK
  have hR : (bigSep Finset.univ fun d : Dev nD => bigSep Finset.univ fun κ : Kd => rch (F := F) d κ 0)
      = bigSep Finset.univ (fun p : Dev nD × Kd => reached (ER (F := F)) (cell p.1 p.2) 0) := by
    rw [bigSep_univ_prod]
  simp only [bigSep_sep']
  rw [toks_pass, hR]
  iintro ⟨H1, H2, #H3, H4⟩
  ihave H1 := hK $$ H1
  icases H1 with ⟨%Kn, #H1⟩
  iapply (each_with Finset.univ
    iprop(bigSep Finset.univ (fun p : Dev nD × Kd => cellInv ER (Rd m) (Kn p) (cell p.1 p.2))
      ∗ bigSep Finset.univ (fun p : Dev nD × Kd => reached (ER (F := F)) (cell p.1 p.2) 0))
    (fun d : Dev nD => iprop((bigSep Finset.univ fun κ : Kd => pos d κ 0) ∗ mine d)) (G' m) (fun d _ => by
      unfold G'
      iintro ⟨#H1, H2⟩
      iexists Kn
      isplitr; · iexact H1
      iexact H2))
  isplitr
  · isplitr; · iexact H1
    iexact H3
  rw [bigSep_sep']
  isplitl [H2] <;> iassumption

theorem open_all : (bigSep Finset.univ fun d => iprop(Pipeline.ownSems0 osem d ∗ unscopedSems0 d ∗ G m d) : sProp 𝕄)
    ⊢ |={Set.univ}=> bigSep Finset.univ (G' m) :=
  ((bigSep_mono fun d _ => open_one m d).trans (bigSep_fupd _ _)).trans (BI.fupd_mono (regroup m))

/-! ## The credits -/

theorem tally_cell (e d : Dev nD) (κ κ' : Kd) (n : ℕ) :
    (tallyAt (cell e κ') () n : CellTallies nD τ sig Unit) (cell d κ) () = if d = e ∧ κ = κ' then n else 0 := by
  rw [tallyAt_apply]
  by_cases h : d = e ∧ κ = κ'
  · rw [if_pos h, if_pos ⟨by rw [h.1, h.2], rfl⟩]
  · rw [if_neg h, if_neg (fun h' => h (cell_inj h'.1))]

theorem owed_at (e : Dev nD) (κ : Kd) : O₀ e (cell d κ) ()
    = (((∑ k : Fin 32, if d = peerY e ∧ κ = k32 1 k then nYB else 0) + ∑ k : Fin 32, if d = peerX e ∧ κ = k32 3 k then nYB else 0)
      + if d = peerX e ∧ κ = none then 1 else 0) + if d = peerY e ∧ κ = none then 1 else 0 := by
  have hf : from' 0 = (Finset.univ : Finset (Fin 32)) := Finset.filter_true_of_mem fun _ _ => Nat.zero_le _
  unfold O₀ O₁ Orem
  rw [hf]
  simp only [Pi.add_apply, Finsupp.add_apply, Finset.sum_apply, Finsupp.finset_sum_apply, tally_cell]

theorem turnY (e : Dev nD) : (d = peerY e) = (e = peerY d) :=
  propext ⟨fun h => by rw [h, peerY_peerY], fun h => by rw [h, peerY_peerY]⟩
theorem turnX (e : Dev nD) : (d = peerX e) = (e = peerX d) :=
  propext ⟨fun h => by rw [h, peerX_peerX], fun h => by rw [h, peerX_peerX]⟩

theorem due_bar : ∑ e : Dev nD, O₀ e (cell d none) () = 2 := by
  have h (e : Dev nD) : O₀ e (cell d none) () = (if e = peerX d then 1 else 0) + if e = peerY d then 1 else 0 := by
    rw [owed_at]
    simp [turnY, turnX, k32]
  rw [Finset.sum_congr rfl fun e _ => h e, Finset.sum_add_distrib, Finset.sum_ite_eq', Finset.sum_ite_eq',
    if_pos (Finset.mem_univ _), if_pos (Finset.mem_univ _)]

theorem due_yr (k : Fin 32) : ∑ e : Dev nD, O₀ e (cell d (k32 1 k)) () = nYB := by
  have h (e : Dev nD) : O₀ e (cell d (k32 1 k)) () = if e = peerY d then nYB else 0 := by
    rw [owed_at]
    by_cases he : e = peerY d <;> simp [turnY, turnX, k32, he]
  rw [Finset.sum_congr rfl fun e _ => h e, Finset.sum_ite_eq', if_pos (Finset.mem_univ _)]

theorem due_xr (k : Fin 32) : ∑ e : Dev nD, O₀ e (cell d (k32 3 k)) () = nYB := by
  have h (e : Dev nD) : O₀ e (cell d (k32 3 k)) () = if e = peerX d then nYB else 0 := by
    rw [owed_at]
    by_cases he : e = peerX d <;> simp [turnY, turnX, k32, he]
  rw [Finset.sum_congr rfl fun e _ => h e, Finset.sum_ite_eq', if_pos (Finset.mem_univ _)]

theorem credit_of (κ : Kd) (n : ℕ) (h : ∑ e : Dev nD, O₀ e (cell d κ) () = n) :
    tallyOn (cell d κ) (launchCredit (Pipeline.owing O₀) 0 (cell d κ)) = (tallyAt (cell d κ) () n : CellTallies nD τ sig Unit) := by
  unfold tallyAt
  refine congrArg _ (Finsupp.ext fun u => ?_)
  cases u
  rw [Pipeline.launchCredit_owing, h, Finsupp.single_eq_same]

theorem credits : (Pipeline.launchCred O₀ d : sProp 𝕄)
    ⊢ iprop(cred (tallyAt (cell d none) () 2) ∗ bigSep Finset.univ (fun k : Fin 32 => crd (F := F) d (k32 1 k))
        ∗ bigSep Finset.univ (fun k : Fin 32 => crd (F := F) d (k32 3 k))) := by
  have e1 : (fun k : Fin 32 => (cred (tallyOn (cell d (k32 1 k)) (launchCredit (Pipeline.owing O₀) 0 (cell d (k32 1 k)))) : sProp 𝕄))
      = fun k => crd d (k32 1 k) := funext fun k => by rw [credit_of d (k32 1 k) nYB (due_yr d k)]; rfl
  have e2 : (fun k : Fin 32 => (cred (tallyOn (cell d (k32 3 k)) (launchCredit (Pipeline.owing O₀) 0 (cell d (k32 3 k)))) : sProp 𝕄))
      = fun k => crd d (k32 3 k) := funext fun k => by rw [credit_of d (k32 3 k) nYB (due_xr d k)]; rfl
  have e : (Pipeline.launchCred O₀ d : sProp 𝕄)
      = bigSep Finset.univ fun κ : Kd => cred (tallyOn (cell d κ) (launchCredit (Pipeline.owing O₀) 0 (cell d κ))) := by
    unfold Pipeline.launchCred
    rw [bigSep_univ_equiv ⟨csem, kdOf, kdOf_csem, csem_kdOf⟩]
    rfl
  rw [e, over_kd, e1, e2, credit_of d none 2 (due_bar d)]
  iintro ⟨⟨-, -, H1, -, H3, -, -⟩, HB⟩
  isplitl [HB]; · iexact HB
  isplitl [H1] <;> iassumption

end Cert.KernelIdeal.Kx

end
-- ==== Proof.Run.lean ====
/- The kernel's run: what each device starts with, what it ends with, and that every run ends there. -/
module

public import proofs.«01_k».proof.Proof.Deal
public import Idealize.ShloMosaic.Lib.Pipeline.CollectiveSegs
public import Idealize.ShloMosaic.Lib.Quiescent

@[expose] public section

noncomputable section

namespace Cert.KernelIdeal.Kx

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (Kn : Dev nD × Kd → ℕ) (d : Dev nD)

/-! ## The body -/

/-- The places in one kind of cell. -/
def P32 (d : Dev nD) (b : Fin 6) (r : ℕ) : sProp 𝕄 := bigSep Finset.univ fun k : Fin 32 => pos d (k32 b k) r

theorem all_places (R : Kd → ℕ) (h2 : ∀ a s, R (k2 a s) = R (k2 0 0)) (h32 : ∀ b k, R (k32 b k) = R none) :
    (bigSep Finset.univ (fun κ : Kd => pos (F := F) d κ (R κ)) : sProp 𝕄)
      = iprop(six d (R (k2 0 0)) ∗ (P32 d 0 (R none) ∗ P32 d 1 (R none) ∗ P32 d 2 (R none) ∗ P32 d 3 (R none) ∗ P32 d 4 (R none) ∗ P32 d 5 (R none))
        ∗ pos d none (R none)) := by
  rw [over_kd]
  simp only [h32]
  rw [h2 0 1, h2 1 0, h2 1 1, h2 2 0, h2 2 1]
  refine same ?_ ?_
  · unfold six P32
    iintro ⟨⟨⟨⟨H1, H2⟩, ⟨H3, H4⟩, ⟨H5, H6⟩⟩, H7⟩, H8⟩
    isplitl [H1 H2 H3 H4 H5 H6]
    · isplitl [H1]; · iexact H1
      isplitl [H2]; · iexact H2
      isplitl [H3]; · iexact H3
      isplitl [H4]; · iexact H4
      isplitl [H5] <;> iassumption
    isplitl [H7] <;> iassumption
  · unfold six P32
    iintro ⟨⟨H1, H2, H3, H4, H5, H6⟩, H7, H8⟩
    isplitl [H1 H2 H3 H4 H5 H6 H7]
    · isplitl [H1 H2 H3 H4 H5 H6]
      · isplitl [H1 H2]
        · isplitl [H1] <;> iassumption
        isplitl [H3 H4]
        · isplitl [H3] <;> iassumption
        isplitl [H5] <;> iassumption
      iexact H7
    iexact H8

theorem all_at_start : (bigSep Finset.univ (fun κ : Kd => pos (F := F) d κ 0) : sProp 𝕄)
    = iprop(six d 0 ∗ (P32 d 0 0 ∗ P32 d 1 0 ∗ P32 d 2 0 ∗ P32 d 3 0 ∗ P32 d 4 0 ∗ P32 d 5 0) ∗ pos d none 0) :=
  all_places d (fun _ => 0) (fun _ _ => rfl) (fun _ _ => rfl)

theorem all_at_end : (bigSep Finset.univ (fun κ : Kd => pos (F := F) d κ (rEnd κ)) : sProp 𝕄)
    = iprop(six d 16 ∗ (P32 d 0 1 ∗ P32 d 1 1 ∗ P32 d 2 1 ∗ P32 d 3 1 ∗ P32 d 4 1 ∗ P32 d 5 1) ∗ pos d none 1) :=
  all_places d rEnd (fun _ _ => rfl) (fun _ _ => rfl)

/-- What a device holds when the body begins; -/
def before : sProp 𝕄 :=
  iprop((bigSep Finset.univ fun κ : Kd => pos (F := F) d κ 0) ∗ mine d
    ∗ (cred (tallyAt (cell d none) () 2) ∗ bigSep Finset.univ (fun k : Fin 32 => crd (F := F) d (k32 1 k))
        ∗ bigSep Finset.univ (fun k : Fin 32 => crd (F := F) d (k32 3 k)))
    ∗ (((d : Thread nD τ).loc main_arg0) ↦{fullShare} opnd m d) ∗ (((d : Thread nD τ).loc main_v1) ↦{fullShare} m ((d : Thread nD τ).loc main_v1)))

/-- the operand and the result when it ends. -/
def result : sProp 𝕄 :=
  iprop((((d : Thread nD τ).loc main_arg0) ↦{fullShare.left} opnd m d)
    ∗ ∃ f : Buf (Elt F) ((d : Thread nD τ).loc main_v1), ⌜∀ i, outHas m d f i⌝ ∗ ((d : Thread nD τ).loc main_v1) ↦{fullShare} f)

def after : sProp 𝕄 := iprop(bufs d ∗ (bigSep Finset.univ fun κ : Kd => semVal (cell d κ) 0) ∗ result m d)

/-- The body's beginning. -/
theorem enter : iprop(before m d ∗ bufs d ∗ ow d (O₀ d))
    ⊢ iprop(bodyIn m d ∗ ((d : Thread nD τ).loc main_arg0) ↦{fullShare.left} opnd m d) := by
  have h1 := opnd_cut m d
  have h2 := out_cut d (m ((d : Thread nD τ).loc main_v1))
  unfold before mine bodyIn tkY tkL Ltok StokA DtokA Ctok
  rw [all_at_start]
  simp only [bigSep_sep']
  unfold P32 A2 A32
  iintro ⟨⟨⟨H6, ⟨P0, P1, P2, P3, P4, P5⟩, PB⟩, ⟨⟨TY, TX⟩, ⟨T0, T1, T2⟩, U0, U1, U2, U3, U4, U5⟩, ⟨CB, C1, C3⟩, HX, HV⟩, Hb, HO⟩
  ihave HX := h1 $$ HX
  icases HX with ⟨HX, HXY, HXL⟩
  ihave HV := h2 $$ HV
  icases HV with ⟨VL, VY, VX⟩
  ihave Hb := (bufs_cut (F := F) d) $$ Hb
  icases Hb with ⟨Hr, HYB, HXB⟩
  isplitr [HX]
  · isplitl [HO]; · iexact HO
    isplitl [TY]; · iexact TY
    isplitl [TX]; · iexact TX
    isplitl [CB]; · iexact CB
    isplitl [PB]; · iexact PB
    isplitl [HYB]; · iexact HYB
    isplitl [HXB]; · iexact HXB
    isplitl [Hr]; · iexact Hr
    isplitl [H6]; · iexact H6
    isplitl [HXY T0]
    · isplitl [HXY] <;> iassumption
    isplitl [HXL T1]
    · isplitl [HXL] <;> iassumption
    isplitl [VL T2]
    · isplitl [VL] <;> iassumption
    isplitl [U0 U1 P0]
    · isplitl [U0]; · iexact U0
      isplitl [U1] <;> iassumption
    isplitl [C1 P1 U2 U3 VY U4 P2 P4]
    · isplitl [C1]; · iexact C1
      isplitl [P1]; · iexact P1
      isplitl [U2]; · iexact U2
      isplitl [U3]; · iexact U3
      isplitl [VY]; · iexact VY
      isplitl [U4]; · iexact U4
      isplitl [P2] <;> iassumption
    isplitl [C3]; · iexact C3
    isplitl [P3]; · iexact P3
    isplitl [VX]; · iexact VX
    isplitl [U5] <;> iassumption
  · iexact HX

/-- The body's end: the cells close. -/
theorem leave : iprop(ctx m Kn ∗ bodyOut m d ∗ ((d : Thread nD τ).loc main_arg0) ↦{fullShare.left} opnd m d)
    ⊢ |={Set.univ}=> iprop(after m d ∗ ow d 0) := by
  have h1 := bufs_join m d
  have h2 := out_join m d
  have h3 := close_all m Kn d
  rw [all_at_end] at h3
  unfold bodyOut Sdone Ldone Fin'
  simp only [bigSep_sep']
  unfold P32 at h3
  iintro ⟨#Hc, ⟨HO, PB, Hr, H6, P0, VL, P1, P2, P3, P4, P5, HYB, HXB, VY, VX⟩, HX⟩
  imod h3 $$ [H6 P0 P1 P2 P3 P4 P5 PB] with Hz
  · isplitr; · iexact Hc
    isplitl [H6]; · iexact H6
    isplitr [PB]
    · isplitl [P0]; · iexact P0
      isplitl [P1]; · iexact P1
      isplitl [P2]; · iexact P2
      isplitl [P3]; · iexact P3
      isplitl [P4] <;> iassumption
    · iexact PB
  imodintro
  unfold after result
  isplitr [HO]
  · isplitl [Hr HYB HXB]
    · iapply h1
      isplitl [Hr]; · iexact Hr
      isplitl [HYB] <;> iassumption
    isplitl [Hz]; · iexact Hz
    isplitl [HX]; · iexact HX
    iapply h2
    isplitl [VL]; · iexact VL
    isplitl [VY] <;> iassumption
  · iexact HO

theorem at_device (r : Dev nD → Pg F) (Q : PUnit → SP F) : WP d (.op .deviceId r) Q = WP d (r d) Q :=
  wp_deviceId (k := r) 𝒱₀ (d : Thread nD τ) none Set.univ

theorem body_whole : iprop(ctx m Kn ∗ before m d ∗ bufs d ∗ ow d (O₀ d)) ⊢ WP d prog (fun _ => iprop(after m d ∗ ow d 0)) := by
  have h := body_rest (m := m) (Kn := Kn) (d := d) (fun _ => iprop(after m d ∗ ow d 0))
  have e : WP (F := F) d prog (fun _ => iprop(after m d ∗ ow d 0)) = WP d (rest d) (fun _ => iprop(after m d ∗ ow d 0)) :=
    at_device d rest _
  have e2 : iprop(|={Set.univ}=> (after m d ∗ ow d 0)) ⊢ WP (F := F) d (.ret ⟨⟩) (fun _ => iprop(after m d ∗ ow d 0)) := by
    unfold WP; rw [wp_ret]
  rw [e]
  iintro ⟨#Hc, Hb⟩
  ihave Hb := (enter m d) $$ Hb
  icases Hb with ⟨Hb, HX⟩
  iapply h $$ [Hb]
  · isplitr; · iexact Hc
    iexact Hb
  iintro Hb
  iapply e2
  iapply (leave m Kn d)
  isplitr; · iexact Hc
  isplitl [Hb] <;> iassumption

/-! ## The launch -/

/-- What a device is launched with; -/
def start : sProp 𝕄 := iprop(∃ Kn : Dev nD × Kd → ℕ, ctx m Kn ∗ before m d)

def dats (_ : Fin 1) (d : Dev nD) : Dat τ (Elt F) Unit ℕ UU ℕ cfg0 d where
  A w := w.elim0
  after w _ := w.elim0
  Φ t := match t with
    | ⟨0, _⟩ => iprop(start m d ∗ bufs d)
    | ⟨_ + 1, _⟩ => after m d
  q _ := fullShare
  owed t := match t with
    | ⟨0, _⟩ => O₀ d
    | ⟨_ + 1, _⟩ => 0

theorem no_windows (Φ : Fin cfg0.W → SP F) : bigSep Finset.univ Φ = iprop(emp) := by
  rw [show (Finset.univ : Finset (Fin cfg0.W)) = ∅ from rfl]; exact bigSep_empty

set_option maxRecDepth 100000 in
theorem body_obligation : BodyObligation (dats (F := F) m 0 d) (defs₀ (F := F)) 𝒱₀ () Set.univ := fun t => by
  rw [fin_N0 t, no_windows, no_windows]
  have e := bodyAt_eq (F := F) t0_0
  show iprop(iprop(start m d ∗ bufs d) ∗ (dats m 0 d).owesAt () t0_0.castSucc ∗ emp)
    ⊢ wp frame (wpE (defs₀ (F := F)) 𝒱₀ d none) Set.univ (bodyAt0 t0_0) (fun _ => iprop(after m d ∗ (dats m 0 d).owesAt () t0_0.succ ∗ emp))
  rw [e]
  refine BIBase.Entails.trans ?_ ((exists_elim fun Kn => body_whole m Kn d).trans (wp_mono _ _ _ fun _ => ?_))
  · unfold start Dat.owesAt Pipeline.owesWithin
    rw [show (dats m 0 d).owed t0_0.castSucc = O₀ d from rfl]
    iintro ⟨⟨⟨%Kn, Hc, Hb⟩, Hs⟩, ⟨%W, %hW, HO⟩, -⟩
    iexists Kn
    isplitl [Hc]; · iexact Hc
    isplitl [Hb]; · iexact Hb
    isplitl [Hs]; · iexact Hs
    unfold ow
    iexists W; iexact HO
  · unfold ow Dat.owesAt Pipeline.owesWithin
    rw [show (dats m 0 d).owed t0_0.succ = 0 from rfl]
    iintro ⟨Ha, %W, HO⟩
    isplitl [Ha]; · iexact Ha
    isplitl [HO]
    · iexists W
      isplitr; · (ipureintro; exact fun _ _ => Or.inl trivial)
      iexact HO
    iempintro

theorem start_in :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(start m d ∗ emp) := by
  rw [Pipeline.unscopedRestP_none, unscopedRest0_eq]
  unfold start before ctx G'
  iintro ⟨⟨HX, HV⟩, Hl, Hc, -, ⟨%Kn, ⟨H1, H2⟩, H3, H4⟩⟩
  ihave Hc := (credits (F := F) d) $$ Hc
  imodintro
  isplitl
  · iexists Kn
    isplitl [H1 H2 Hl]
    · isplitl [H1]; · iexact H1
      isplitl [H2] <;> iassumption
    isplitl [H3]; · iexact H3
    isplitl [H4]; · iexact H4
    isplitl [Hc]; · iexact Hc
    isplitl [HX] <;> iassumption
  · iempintro

theorem phi_in :
    iprop(start m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = iprop(start m d ∗ bufs d) from rfl, scopedRest0_eq]
  iintro ⟨Hs, -, Hb⟩
  isplitl [Hs]; · iexact Hs
  unfold bufs buf
  iexact Hb

theorem phi_out : (dats m 0 d).Φ (Fin.last cfg0.N)
    ⊢ iprop((unscopedSems0 d ∗ result m d) ∗ Pipeline.ownSems0 osem d ∗ Pipeline.scopedRest cfg0.spec d) := by
  rw [show (dats m 0 d).Φ (Fin.last cfg0.N) = after m d from rfl, scopedRest0_eq]
  unfold after
  rw [← sems_all]
  unfold bufs buf
  iintro ⟨Hb, ⟨Ho, Hu⟩, Hr⟩
  isplitl [Hu Hr]
  · isplitl [Hu] <;> iassumption
  isplitl [Ho] <;> iassumption

/-- How a device's memory and counters stand at the end. -/
def Ended (d : Dev nD) (s : MemSt nD τ sig (Elt F)) : Prop :=
  (∀ sm : SemLoc sig, sm.isScoped .tc = false → s.sem ((d.tc : Thread nD τ), sm) = 0)
    ∧ s.mem ((d : Thread nD τ).loc main_arg0) = opnd m d ∧ ∀ i, outHas m d (s.mem ((d : Thread nD τ).loc main_v1)) i

theorem end_read (s' : Phys nD τ sig (Elt F)) :
    iprop((unscopedSems0 d ∗ result m d) ∗ emp ∗ Idealize.ShloMosaic.SI s') ⊢ (|={Set.univ}=> iprop(⌜Ended m d s'.mem⌝ ∗ Idealize.ShloMosaic.SI s') : sProp 𝕄) := by
  have h := Pipeline.unscopedSems0_read (Ix := Unit) (Name := ℕ) (U := UU) (Lvl := ℕ) (Val := Elt F) (X := unscopedSems0 d) (c := d) fupd_intro s'
  unfold result
  iintro ⟨⟨Hu, HX, ⟨%f, %hf, HV⟩⟩, -, HSI⟩
  icombine HSI HX gives %hx
  icombine HSI HV gives %hv
  imod h $$ [Hu HSI] with ⟨%hs, HSI⟩
  · isplitl [Hu] <;> iassumption
  imodintro
  isplitr
  · ipureintro
    refine ⟨hs, Buf.eq_of_forall_mem_univ hx, ?_⟩
    rw [show s'.mem.mem ((d : Thread nD τ).loc main_v1) = f from Buf.eq_of_forall_mem_univ hv]
    exact hf
  · iexact HSI

theorem waits : (levAts L lv : sProp 𝕄) ⊢ Pipeline.cellsWaits cfgs (dats m) () 0 d :=
  Pipeline.cellsWaits_intro cfgs (dats m) () 0 d fun w => w.elim0

/-! ## The run -/

set_option maxRecDepth 100000 in
/-- For any float values and from any memory, all counters zero: every weakly fair run of the kernel ends, with each
    device's operand as it was, its result as computed, and every counter zero. -/
theorem run_main : θ_run defs (onTc (τ := τ) (main (F := F))) ⟨m, fun _ => 0, ρ⟩ (fun r =>
    (∀ d : Dev nD, r.2.mem ((d : Thread nD τ).loc main_arg0) = opnd m d ∧ ∀ i, outHas m d (r.2.mem ((d : Thread nD τ).loc main_v1)) i)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := open_all m)
    (hA := fun _ w => w.elim0) (hpf := fun _ k => k.elim0)
    (X := start m) (Y := fun d => iprop(unscopedSems0 d ∗ result m d)) (Z := fun _ => iprop(emp))
    (hX := start_in m ρ) (hin := phi_in m) (hout := phi_out m)
    (QY := Ended m)
    (hY := fun d s' => end_read m d s')
    (hQ := fun _ h hs => ⟨fun d => ⟨(h d).2.2.2.1, (h d).2.2.2.2⟩, sem_eq_zero hs fun d => (h d).2.2.1⟩)

end Cert.KernelIdeal.Kx

end
-- ==== Proof.Ref.lean ====
/- The reference's run: one narrowing of the whole array. -/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.ReferenceIdeal.Rx

open Idealize.ShloMosaic Idealize.ShloMosaic.TcCoe Idealize.ShloMosaic.StableHlo Idealize.SL.Sem
open Cert.ReferenceIdeal Cert.ReferenceIdeal.Gen

variable {F : FTy → Type} [FloatOps F]

/-- What the reference computes of its argument. -/
abbrev narrow (w : FVec F S32768x2048 .f32) : FVec F S32768x2048 .bf16 := truncf .bf16 w bitsLt_bf16_f32

/-- The one operation. -/
abbrev line : List (HloOp τ sig (Elt F)) := [unary main_arg0 main_v0 (narrow (F := F))]

theorem result_after (V : Valuation τ sig (Elt F)) :
    after line V (main_v0 : DevRef τ sig) = narrow (F := F) (V (main_arg0 : DevRef τ sig)) := by
  after_results
theorem argument_after (V : Valuation τ sig (Elt F)) : after line V (main_arg0 : DevRef τ sig) = V (main_arg0 : DevRef τ sig) := by
  after_results

/-- Every run ends with the narrowed array as the result, the argument as it was and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ d : Dev nD, r.2.mem ((d.tc : Thread nD τ).loc main_v0) = narrow (F := F) (m ((d.tc : Thread nD τ).loc main_arg0))
        ∧ r.2.mem ((d.tc : Thread nD τ).loc main_arg0) = m ((d.tc : Thread nD τ).loc main_arg0))
      ∧ r.2.sem = fun _ => 0 := by
  have h := run_seq (by decide) (by decide) (defs (F := F)) main (fun _ => line) (fun _ => rfl) (fun _ => unary_bufs_sub ..) m ρ
  refine (θ_run defs _ _).mono (fun r hr => ⟨fun d => ⟨?_, ?_⟩, sem_eq_zero_of_no_sems rfl _⟩) h
  · exact (hr d main_v0).trans (result_after _)
  · exact (hr d main_arg0).trans (argument_after _)

end Cert.ReferenceIdeal.Rx

end
-- ==== Proof.Value.lean ====
/- The result's blocks, put together, are the device's part of the whole array narrowed. -/
module

public import proofs.«01_k».proof.Proof.Slots
public import Idealize.ShloMosaic.Lib.Layout

@[expose] public section

noncomputable section

namespace Cert.KernelIdeal.Kx

open Idealize.ShloMosaic
open Idealize.ShloMosaic.TcCoe
open Cert.KernelIdeal Cert.KernelIdeal.Gen

variable {F : FTy → Type} [FloatOps F]

variable (m : (ℓ : Loc nD τ sig) → Buf (Elt F) ℓ) (d : Dev nD)

/-! ## Reading one element -/

/-- What a block of the result's rows reads: the result further down. -/
theorem read_out {off : Fin 2 → ℕ} {r h : ℕ} (inb : ∀ a, off a + (⟨2, ![h, 1024]⟩ : Shape).size a ≤ S32768x1024.size a) (e : off = ![r, 0])
    (f : S32768x1024.Idx → Elt F .bf16) (i : (⟨2, ![h, 1024]⟩ : Shape).Idx) (x : S32768x1024.Idx) (h0 : (x 0).val = r + (i 0).val) (h1 : (x 1).val = (i 1).val) :
    (aO.slice (Rect.unit (s := S32768x1024) off (⟨2, ![h, 1024]⟩ : Shape).size inb) (fun _ => rfl)).view.read (Elt F) f i = f x := by
  subst e
  refine congrArg f (funext fun a => Fin.ext ?_)
  fin_cases a
  · exact (show r + 1 * (i 0).val = (x 0).val by omega)
  · exact (show 0 + 1 * (i 1).val = (x 1).val by omega)

/-- What a block of the operand reads: the operand further down and across. -/
theorem read_arg {off : Fin 2 → ℕ} {r q h : ℕ} (inb : ∀ a, off a + (⟨2, ![h, 1024]⟩ : Shape).size a ≤ S16384x2048.size a) (e : off = ![r, q])
    (f : S16384x2048.Idx → Elt F .f32) (i : (⟨2, ![h, 1024]⟩ : Shape).Idx) (x : S16384x2048.Idx) (h0 : (x 0).val = r + (i 0).val) (h1 : (x 1).val = q + (i 1).val) :
    (aX.slice (Rect.unit (s := S16384x2048) off (⟨2, ![h, 1024]⟩ : Shape).size inb) (fun _ => rfl)).view.read (Elt F) f i = f x := by
  subst e
  refine congrArg f (funext fun a => Fin.ext ?_)
  fin_cases a
  · exact (show r + 1 * (i 0).val = (x 0).val by omega)
  · exact (show q + 1 * (i 1).val = (x 1).val by omega)

/-! ## The whole array -/

/-- Which part of the rows a device is given, -/
abbrev rowPart (d : Dev nD) : (b : Fin 2) → Fin (Layout.cutSize [2, 2] (![[1], []] b)) := Layout.meshBlock [2, 2] ![[1], []] d
/-- and which part of the columns it is to hold. -/
abbrev colPart (d : Dev nD) : (b : Fin 2) → Fin (Layout.cutSize [2, 2] (![[], [1]] b)) := Layout.meshBlock [2, 2] ![[], [1]] d

/-- The rows of the whole array device `d` is given. -/
abbrev given (w : FVec F (⟨2, ![32768, 2048]⟩ : Shape) .f32) (d : Dev nD) : FVec F S16384x2048 .f32 :=
  Layout.blockN ⟨2, ![16384, 2048]⟩ ⟨2, ![32768, 2048]⟩ (rowPart d) w

/-- The columns of the whole array, narrowed, device `d` is to hold. -/
abbrev wanted (w : FVec F (⟨2, ![32768, 2048]⟩ : Shape) .f32) (d : Dev nD) : FVec F S32768x1024 .bf16 :=
  Layout.blockN ⟨2, ![32768, 1024]⟩ ⟨2, ![32768, 2048]⟩ (colPart d) (truncf .bf16 w bitsLt_bf16_f32)

theorem rows_bit (d : Dev nD) : (rowPart d 0).val = d.val % 2 ∧ (rowPart d 1).val = 0 := by
  revert d; decide
theorem cols_bit (d : Dev nD) : (colPart d 0).val = 0 ∧ (colPart d 1).val = d.val % 2 := by
  revert d; decide

/-- Two places of a whole array, each in a block of its own size, are one place when both coordinates agree. -/
theorem one_place {a b a' b' t u : ℕ} {k k' : Fin 2 → ℕ} (h : Layout.TilesN ⟨2, ![a, b]⟩ ⟨2, ![t, u]⟩ k) (h' : Layout.TilesN ⟨2, ![a', b']⟩ ⟨2, ![t, u]⟩ k')
    (j : (c : Fin 2) → Fin (k c)) (j' : (c : Fin 2) → Fin (k' c)) (i : (⟨2, ![a, b]⟩ : Shape).Idx) (i' : (⟨2, ![a', b']⟩ : Shape).Idx)
    (e0 : (j 0).val * a + (i 0).val = (j' 0).val * a' + (i' 0).val) (e1 : (j 1).val * b + (i 1).val = (j' 1).val * b' + (i' 1).val) :
    h.idx j i = h'.idx j' i' := by
  refine funext fun c => Fin.ext ?_
  rw [Layout.TilesN.idx_val, Layout.TilesN.idx_val]
  fin_cases c
  · exact e0
  · exact e1

/-- An element of what `d` is to hold, narrowed from the element of what `e` is given at the same place of the whole array. -/
theorem wanted_at (w : FVec F (⟨2, ![32768, 2048]⟩ : Shape) .f32) (d e : Dev nD) (x : S32768x1024.Idx) (y : S16384x2048.Idx)
    (h0 : (x 0).val = e.val % 2 * 16384 + (y 0).val) (h1 : d.val % 2 * 1024 + (x 1).val = (y 1).val) :
    wanted w d x = FloatOps.truncf .bf16 bitsLt_bf16_f32 (given w e y) := by
  obtain ⟨a0, a1⟩ := rows_bit e
  obtain ⟨b0, b1⟩ := cols_bit d
  refine congrArg (fun z => FloatOps.truncf .bf16 bitsLt_bf16_f32 (w z)) (one_place _ _ _ _ _ _ ?_ ?_)
  · rw [b0, a0, Nat.zero_mul, Nat.zero_add]; exact h0
  · rw [b1, a1, Nat.zero_mul, Nat.zero_add]; exact h1

theorem bits_peerY (d : Dev nD) : (peerY d).val % 2 = 1 - d.val % 2 ∧ (peerY d).val / 2 = d.val / 2 := by
  have := k0_dev1_eq d; have hb := dev_bits d
  simp only [peerY, this]; omega
theorem bits_peerX (d : Dev nD) : (peerX d).val % 2 = d.val % 2 ∧ (peerX d).val / 2 = 1 - d.val / 2 := by
  have := k0_dev2_eq d; have hb := dev_bits d
  simp only [peerX, this]; omega

/-- A block of rows of the result that reads what device `e` narrowed of a block of its operand, at the same place of the
    whole array, holds there what it is to hold. -/
theorem piece_value (w : FVec F (⟨2, ![32768, 2048]⟩ : Shape) .f32) (hin : ∀ d, opnd m d = given w d) (d e : Dev nD)
    (f : S32768x1024.Idx → Elt F .bf16) {h r r' q : ℕ} {off off' : Fin 2 → ℕ}
    (inb : ∀ a, off a + (⟨2, ![h, 1024]⟩ : Shape).size a ≤ S32768x1024.size a) (eo : off = ![r, 0])
    (inb' : ∀ a, off' a + (⟨2, ![h, 1024]⟩ : Shape).size a ≤ S16384x2048.size a) (eo' : off' = ![r', q])
    (hr : r = e.val % 2 * 16384 + r') (hq : q = d.val % 2 * 1024)
    (hf : (aO.slice (Rect.unit (s := S32768x1024) off (⟨2, ![h, 1024]⟩ : Shape).size inb) (fun _ => rfl)).view.read (Elt F) f
      = fun i => FloatOps.truncf .bf16 bitsLt_bf16_f32
          ((aX.slice (Rect.unit (s := S16384x2048) off' (⟨2, ![h, 1024]⟩ : Shape).size inb') (fun _ => rfl)).view.read (Elt F) (opnd m e) i))
    (x : S32768x1024.Idx) (lo : r ≤ (x 0).val) (hi : (x 0).val < r + h) : f x = wanted w d x := by
  have hx1 : (x 1).val < 1024 := (x 1).isLt
  have b0 : r' + h ≤ 16384 := by have := inb' 0; rw [eo'] at this; exact this
  have b1 : q + 1024 ≤ 2048 := by have := inb' 1; rw [eo'] at this; exact this
  let i : (⟨2, ![h, 1024]⟩ : Shape).Idx := Fin.cons ⟨(x 0).val - r, (by omega : (x 0).val - r < h)⟩ (Fin.cons ⟨(x 1).val, hx1⟩ finZeroElim)
  let y : S16384x2048.Idx := Fin.cons ⟨r' + ((x 0).val - r), (by omega : r' + ((x 0).val - r) < 16384)⟩ (Fin.cons ⟨q + (x 1).val, (by omega : q + (x 1).val < 2048)⟩ finZeroElim)
  have i0 : (i 0).val = (x 0).val - r := rfl
  have i1 : (i 1).val = (x 1).val := rfl
  have y0 : (y 0).val = r' + ((x 0).val - r) := rfl
  have y1 : (y 1).val = q + (x 1).val := rfl
  have key := congrFun hf i
  rw [read_out inb eo f i x (by omega) (by omega)] at key
  rw [read_arg inb' eo' (opnd m e) i y (by omega) (by omega), hin e] at key
  rw [key, wanted_at w d e x y (by omega) (by omega)]

/-- A result whose blocks read what was narrowed is the device's part of the whole array narrowed. -/
theorem out_value (w : FVec F (⟨2, ![32768, 2048]⟩ : Shape) .f32) (hin : ∀ d, opnd m d = given w d) (d : Dev nD)
    (f : Buf (Elt F) ((d : Thread nD τ).loc main_v1)) (hf : ∀ i, outHas m d f i) : f = wanted w d := by
  funext x
  obtain ⟨i, -, hi⟩ := Finset.mem_biUnion.mp ((out_cover d).symm ▸ Finset.mem_univ x)
  obtain ⟨lo, hi⟩ := (mem_out d i x).mp hi
  have hb := dev_bits d
  have hY := bits_peerY d
  have hX := bits_peerX d
  have hXY := bits_peerY (peerX d)
  rcases i with k | k | k
  · exact piece_value m w hin d d f (k0_off4_inb d k) (k0_off4_eq d k) (offL_inb d k) (offL_eq d k) (by omega) (by omega) (hf (.inl k)) x lo hi
  · exact piece_value m w hin d (peerY d) f (k0_off6_inb d k) (k0_off6_eq d k) (k0_off1_inb (peerY d) k) (k0_off1_eq (peerY d) k) (by omega) (by omega) (hf (.inr (.inl k))) x lo hi
  · exact piece_value m w hin d (peerY (peerX d)) f (k0_off36_inb d k) (k0_off36_eq d k) (k0_off1_inb (peerY (peerX d)) k) (k0_off1_eq (peerY (peerX d)) k) (by omega) (by omega) (hf (.inr (.inr k))) x lo hi

end Cert.KernelIdeal.Kx

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Ref
public import proofs.«01_k».proof.Proof.Value

@[expose] public section

noncomputable section

namespace Cert.Proof

open Idealize.ShloMosaic Idealize.SL.Sem

/-- The kernel as printed runs, leaves its argument alone and every counter at zero. -/
theorem kernel_runs : Cert.quiescent_Kernel (hKernel := Cert.Kernel.Gen.facts) := fun m ρ _ =>
  (θ_run Cert.KernelIdeal.defs _ _).mono (fun _ h => ⟨fun d => (h.1 d).1, h.2⟩) (Cert.KernelIdeal.Kx.run_main (F := Bits) m ρ)

/-- So does the kernel over the exact numbers, -/
theorem ideal_runs : Cert.quiescent_KernelIdeal (hKernelIdeal := Cert.KernelIdeal.Gen.facts) := fun m ρ _ =>
  (θ_run Cert.KernelIdeal.defs _ _).mono (fun _ h => ⟨fun d => (h.1 d).1, h.2⟩) (Cert.KernelIdeal.Kx.run_main (F := Ideal) m ρ)

/-- and the reference. -/
theorem reference_runs : Cert.quiescent_ReferenceIdeal (hReferenceIdeal := Cert.ReferenceIdeal.Gen.facts) := fun m ρ _ =>
  (θ_run Cert.ReferenceIdeal.defs _ _).mono (fun _ h => ⟨fun d => (h.1 d).2, h.2⟩) (Cert.ReferenceIdeal.Rx.run (F := Ideal) m ρ)

/-- Over the exact numbers every device ends with its columns of what the reference ends with. -/
theorem values_agree : Cert.algebraic_KernelIdeal_ReferenceIdeal (hKernelIdeal := Cert.KernelIdeal.Gen.facts) (hReferenceIdeal := Cert.ReferenceIdeal.Gen.facts) := by
  intro m ρ m' ρ' _ hin
  refine ⟨Cert.ReferenceIdeal.Rx.narrow (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h d => ⟨Cert.KernelIdeal.Kx.out_value m _ hin d _ (h.1 d).2, (h.1 d).1⟩)
      (Cert.KernelIdeal.Kx.run_main (F := Ideal) m ρ)
  · exact (θ_run Cert.ReferenceIdeal.defs _ _).mono (fun _ h => h.1 0) (Cert.ReferenceIdeal.Rx.run (F := Ideal) m' ρ')

theorem claim : Cert.Claim := ⟨Cert.Kernel.Gen.facts, Cert.KernelIdeal.Gen.facts, Cert.ReferenceIdeal.Gen.facts,
  kernel_runs, ideal_runs, reference_runs, trivial, values_agree⟩

end Cert.Proof

end
